-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S1000000x32 : Shape := ⟨2, ![1000000, 32]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn_part1 {F : FTy → Type} [FloatOps F] (main_arg4 : IVec S16384 32) (main_v14 : IVec S_ 1) (main_c_7 : IVec S_ 32) : IVec S_ 1 :=
  let main_v15 : IVec S16384 32 := broadcastInDim S16384 ![] bcast_S_S16384 main_c_7
  let main_v16 : IVec S16384 1 := cmpi .sge main_arg4 main_v15
  let main_c_8 : IVec S_ 1 := constantI S_ 1 1#1
  let main_v17 : IVec S_ 1 := (fun x v => Host.reduce IntOp.andi x v reducesTo_S16384_S_d0 h_S_) main_v16 main_c_8
  let main_v18 : IVec S_ 1 := andi main_v14 main_v17
  let main_c_9 : IVec S_ 32 := constantI S_ 32 1000000#32
  let main_v19 : IVec S16384 32 := broadcastInDim S16384 ![] bcast_S_S16384 main_c_9
  let main_v20 : IVec S16384 1 := cmpi .slt main_arg4 main_v19
  let main_c_10 : IVec S_ 1 := constantI S_ 1 1#1
  let main_v21 : IVec S_ 1 := (fun x v => Host.reduce IntOp.andi x v reducesTo_S16384_S_d0 h_S_) main_v20 main_c_10
  let main_v22 : IVec S_ 1 := andi main_v18 main_v21
  main_v22

def fn {F : FTy → Type} [FloatOps F] (main_arg0 : FVec F S1000000x32 .f32) (main_arg1 : FVec F S1000000x32 .f32) (main_arg2 : IVec S16384 32) (main_arg3 : IVec S16384 32) (main_arg4 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg2 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg3 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg3 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg4 main_v14 main_c_7
-- ==== Pre_in_range_finite.lean ====
abbrev S1000000x32 : Shape := ⟨2, ![1000000, 32]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S1000000x32 : S_.BroadcastsInDim S1000000x32 (![] : Fin 0 → Fin S1000000x32.rank)
  reducesTo_S1000000x32_S_d0_1 : S1000000x32.ReducesTo [0, 1] S_

variable [Facts]

def fn_part2 {F : FTy → Type} [FloatOps F] (main_v27 : IVec S_ 1) (main_v31 : IVec S_ 1) : IVec S_ 1 :=
  let main_v32 : IVec S_ 1 := andi main_v27 main_v31
  main_v32

def fn_part1 {F : FTy → Type} [FloatOps F] (main_arg0 : FVec F S1000000x32 .f32) (main_arg1 : FVec F S1000000x32 .f32) (main_arg4 : IVec S16384 32) (main_v14 : IVec S_ 1) (main_c_7 : IVec S_ 32) : IVec S_ 1 :=
  let main_v15 : IVec S16384 32 := broadcastInDim S16384 ![] bcast_S_S16384 main_c_7
  let main_v16 : IVec S16384 1 := cmpi .sge main_arg4 main_v15
  let main_c_8 : IVec S_ 1 := constantI S_ 1 1#1
  let main_v17 : IVec S_ 1 := (fun x v => Host.reduce IntOp.andi x v reducesTo_S16384_S_d0 h_S_) main_v16 main_c_8
  let main_v18 : IVec S_ 1 := andi main_v14 main_v17
  let main_c_9 : IVec S_ 32 := constantI S_ 32 1000000#32
  let main_v19 : IVec S16384 32 := broadcastInDim S16384 ![] bcast_S_S16384 main_c_9
  let main_v20 : IVec S16384 1 := cmpi .slt main_arg4 main_v19
  let main_c_10 : IVec S_ 1 := constantI S_ 1 1#1
  let main_v21 : IVec S_ 1 := (fun x v => Host.reduce IntOp.andi x v reducesTo_S16384_S_d0 h_S_) main_v20 main_c_10
  let main_v22 : IVec S_ 1 := andi main_v18 main_v21
  let main_v23 : FVec F S1000000x32 .f32 := Host.absf main_arg0
  let main_cst : FVec F S_ .f32 := constant S_ .f32 0x7F800000#32
  let main_v24 : FVec F S1000000x32 .f32 := broadcastInDim S1000000x32 ![] bcast_S_S1000000x32 main_cst
  let main_v25 : IVec S1000000x32 1 := cmpf .olt main_v23 main_v24
  let main_c_11 : IVec S_ 1 := constantI S_ 1 1#1
  let main_v26 : IVec S_ 1 := (fun x v => Host.reduce IntOp.andi x v reducesTo_S1000000x32_S_d0_1 h_S_) main_v25 main_c_11
  let main_v27 : IVec S_ 1 := andi main_v22 main_v26
  let main_v28 : FVec F S1000000x32 .f32 := Host.absf main_arg1
  let main_cst_12 : FVec F S_ .f32 := constant S_ .f32 0x7F800000#32
  let main_v29 : FVec F S1000000x32 .f32 := broadcastInDim S1000000x32 ![] bcast_S_S1000000x32 main_cst_12
  let main_v30 : IVec S1000000x32 1 := cmpf .olt main_v28 main_v29
  let main_c_13 : IVec S_ 1 := constantI S_ 1 1#1
  let main_v31 : IVec S_ 1 := (fun x v => Host.reduce IntOp.andi x v reducesTo_S1000000x32_S_d0_1 h_S_) main_v30 main_c_13
  fn_part2 (F := F) main_v27 main_v31

def fn {F : FTy → Type} [FloatOps F] (main_arg0 : FVec F S1000000x32 .f32) (main_arg1 : FVec F S1000000x32 .f32) (main_arg2 : IVec S16384 32) (main_arg3 : IVec S16384 32) (main_arg4 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg2 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000000#32
  let main_v3 : IVec S16384 32 := broadcastInDim S16384 ![] bcast_S_S16384 main_c_1
  let main_v4 : IVec S16384 1 := cmpi .slt main_arg2 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg3 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 1000000#32
  let main_v11 : IVec S16384 32 := broadcastInDim S16384 ![] bcast_S_S16384 main_c_5
  let main_v12 : IVec S16384 1 := cmpi .slt main_arg3 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg0 main_arg1 main_arg4 main_v14 main_c_7
-- ==== Kernel.lean ====
abbrev S1000000x32 : Shape := ⟨2, ![1000000, 32]⟩
abbrev S16384 : Shape := ⟨1, ![16384]⟩
abbrev S1000000x128 : Shape := ⟨2, ![1000000, 128]⟩
abbrev S4000x32 : Shape := ⟨2, ![4000, 32]⟩
abbrev S4000x128 : Shape := ⟨2, ![4000, 128]⟩
abbrev S128x128 : Shape := ⟨2, ![128, 128]⟩
abbrev S16384x128 : Shape := ⟨2, ![16384, 128]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S128 : Shape := ⟨1, ![128]⟩
abbrev S8x128 : Shape := ⟨2, ![8, 128]⟩
abbrev S1x16384 : Shape := ⟨2, ![1, 16384]⟩
abbrev S1 : Shape := ⟨1, ![1]⟩
abbrev S1x1 : Shape := ⟨2, ![1, 1]⟩
abbrev S1x16384x128 : Shape := ⟨3, ![1, 16384, 128]⟩
abbrev S1x1x1 : Shape := ⟨3, ![1, 1, 1]⟩

abbrev nBuf : Table → Nat
  | .hbm => 19
  | .local .tc .vmem => 13
  | .local .scVector .vmem => 2
  | _ => 0

abbrev bufTy : (tb : Table) → Fin (nBuf tb) → BufTy
  | .hbm, ⟨0, _⟩ => ⟨S1000000x32, .f32⟩
  | .hbm, ⟨1, _⟩ => ⟨S1000000x32, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S1000000x128, .f32⟩
  | .hbm, ⟨6, _⟩ => ⟨S1000000x128, .f32⟩
  | .hbm, ⟨7, _⟩ => ⟨S128x128, .i32⟩
  | .hbm, ⟨8, _⟩ => ⟨S128x128, .i32⟩
  | .hbm, ⟨9, _⟩ => ⟨S128x128, .i32⟩
  | .hbm, ⟨10, _⟩ => ⟨S16384x128, .f32⟩
  | .hbm, ⟨11, _⟩ => ⟨S16384x128, .f32⟩
  | .hbm, ⟨12, _⟩ => ⟨S16384x128, .f32⟩
  | .hbm, ⟨13, _⟩ => ⟨S8x128, .f32⟩
  | .hbm, ⟨14, _⟩ => ⟨S8x128, .f32⟩
  | .hbm, ⟨15, _⟩ => ⟨S1x1, .f32⟩
  | .hbm, ⟨16, _⟩ => ⟨S_, .f32⟩
  | .hbm, ⟨17, _⟩ => ⟨S1x1, .f32⟩
  | .hbm, ⟨18, _⟩ => ⟨S_, .f32⟩
  | .local .tc .vmem, ⟨0, _⟩ => ⟨S4000x32, .f32⟩
  | .local .tc .vmem, ⟨1, _⟩ => ⟨S4000x32, .f32⟩
  | .local .tc .vmem, ⟨2, _⟩ => ⟨S4000x32, .f32⟩
  | .local .tc .vmem, ⟨3, _⟩ => ⟨S4000x32, .f32⟩
  | .local .tc .vmem, ⟨4, _⟩ => ⟨S4000x128, .f32⟩
  | .local .tc .vmem, ⟨5, _⟩ => ⟨S4000x128, .f32⟩
  | .local .tc .vmem, ⟨6, _⟩ => ⟨S4000x128, .f32⟩
  | .local .tc .vmem, ⟨7, _⟩ => ⟨S4000x128, .f32⟩
  | .local .tc .vmem, ⟨8, _⟩ => ⟨S16384x128, .f32⟩
  | .local .tc .vmem, ⟨9, _⟩ => ⟨S16384x128, .f32⟩
  | .local .tc .vmem, ⟨10, _⟩ => ⟨S16384x128, .f32⟩
  | .local .tc .vmem, ⟨11, _⟩ => ⟨S8x128, .f32⟩
  | .local .tc .vmem, ⟨12, _⟩ => ⟨S8x128, .f32⟩
  | .local .scVector .vmem, ⟨0, _⟩ => ⟨S4x128, .i32⟩
  | .local .scVector .vmem, ⟨1, _⟩ => ⟨S512x128, .f32⟩
  | _, _ => ⟨S1000000x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v0_0_scv : Ref sig .scVector := ⟨.hbm, 5, rfl⟩
abbrev main_v0_1_scv : Ref sig .scVector := ⟨.hbm, 6, rfl⟩
abbrev main_v1_scv : Ref sig .scVector := ⟨.hbm, 7, rfl⟩
abbrev main_v2_scv : Ref sig .scVector := ⟨.hbm, 8, rfl⟩
abbrev main_v3_scv : Ref sig .scVector := ⟨.hbm, 9, rfl⟩
abbrev main_v4_0_scv : Ref sig .scVector := ⟨.hbm, 10, rfl⟩
abbrev main_v4_1_scv : Ref sig .scVector := ⟨.hbm, 11, rfl⟩
abbrev main_v4_2_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_140_r0 : BitVec 32 := 0#32
  ![v3.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_140_r1 : BitVec 32 := 0#32
  ![v2.toNat, 0]
abbrev grid2 : Pipeline.Grid := .none

abbrev stage2_0 : Fin 1 → Memref sig .tc .vmem S16384x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S16384x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S16384x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S8x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x32 : Shape := ⟨2, ![1000000, 32]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x32 : Shape := ⟨2, ![16384, 32]⟩

abbrev nBuf : Space → Nat
  | .hbm => 110
  | .vmem => 0
  | .smem => 0
  | _ => 0

abbrev bufTy : (tb : Table) → Fin (tcTables nBuf tb) → BufTy
  | .hbm, ⟨0, _⟩ => ⟨S1000000x32, .f32⟩
  | .hbm, ⟨1, _⟩ => ⟨S1000000x32, .f32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x32, .f32⟩
  | .hbm, ⟨24, _⟩ => ⟨S16384x32, .i1⟩
  | .hbm, ⟨25, _⟩ => ⟨S_, .f32⟩
  | .hbm, ⟨26, _⟩ => ⟨S16384x32, .f32⟩
  | .hbm, ⟨27, _⟩ => ⟨S16384x32, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x32, .f32⟩
  | .hbm, ⟨47, _⟩ => ⟨S16384x32, .i1⟩
  | .hbm, ⟨48, _⟩ => ⟨S_, .f32⟩
  | .hbm, ⟨49, _⟩ => ⟨S16384x32, .f32⟩
  | .hbm, ⟨50, _⟩ => ⟨S16384x32, .f32⟩
  | .hbm, ⟨51, _⟩ => ⟨S_, .i32⟩
  | .hbm, ⟨52, _⟩ => ⟨S16384, .i32⟩
  | .hbm, ⟨53, _⟩ => ⟨S16384, .i1⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S16384, .i32⟩
  | .hbm, ⟨58, _⟩ => ⟨S16384x1, .i32⟩
  | .hbm, ⟨59, _⟩ => ⟨S1, .i32⟩
  | .hbm, ⟨60, _⟩ => ⟨S_, .i32⟩
  | .hbm, ⟨61, _⟩ => ⟨S16384x1, .i32⟩
  | .hbm, ⟨62, _⟩ => ⟨S16384x1, .i1⟩
  | .hbm, ⟨63, _⟩ => ⟨S1x1, .i32⟩
  | .hbm, ⟨64, _⟩ => ⟨S16384x1, .i32⟩
  | .hbm, ⟨65, _⟩ => ⟨S16384x1, .i1⟩
  | .hbm, ⟨66, _⟩ => ⟨S16384x1, .i1⟩
  | .hbm, ⟨67, _⟩ => ⟨S_, .i1⟩
  | .hbm, ⟨68, _⟩ => ⟨S16384, .i1⟩
  | .hbm, ⟨69, _⟩ => ⟨S16384x32, .f32⟩
  | .hbm, ⟨70, _⟩ => ⟨S16384x32, .i1⟩
  | .hbm, ⟨71, _⟩ => ⟨S_, .f32⟩
  | .hbm, ⟨72, _⟩ => ⟨S16384x32, .f32⟩
  | .hbm, ⟨73, _⟩ => ⟨S16384x32, .f32⟩
  | .hbm, ⟨74, _⟩ => ⟨S16384x32, .f32⟩
  | .hbm, ⟨75, _⟩ => ⟨S_, .f32⟩
  | .hbm, ⟨76, _⟩ => ⟨S16384, .f32⟩
  | .hbm, ⟨77, _⟩ => ⟨S16384x32, .f32⟩
  | .hbm, ⟨78, _⟩ => ⟨S_, .f32⟩
  | .hbm, ⟨79, _⟩ => ⟨S16384, .f32⟩
  | .hbm, ⟨80, _⟩ => ⟨S16384, .f32⟩
  | .hbm, ⟨81, _⟩ => ⟨S_, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S16384, .f32⟩
  | .hbm, ⟨86, _⟩ => ⟨S16384, .i1⟩
  | .hbm, ⟨87, _⟩ => ⟨S16384, .f32⟩
  | .hbm, ⟨88, _⟩ => ⟨S16384, .f32⟩
  | .hbm, ⟨89, _⟩ => ⟨S16384, .f32⟩
  | .hbm, ⟨90, _⟩ => ⟨S16384, .f32⟩
  | .hbm, ⟨91, _⟩ => ⟨S16384, .f32⟩
  | .hbm, ⟨92, _⟩ => ⟨S16384, .f32⟩
  | .hbm, ⟨93, _⟩ => ⟨S16384, .f32⟩
  | .hbm, ⟨94, _⟩ => ⟨S16384, .f32⟩
  | .hbm, ⟨95, _⟩ => ⟨S_, .f32⟩
  | .hbm, ⟨96, _⟩ => ⟨S_, .f32⟩
  | .hbm, ⟨97, _⟩ => ⟨S16384x32, .f32⟩
  | .hbm, ⟨98, _⟩ => ⟨S_, .f32⟩
  | .hbm, ⟨99, _⟩ => ⟨S16384, .f32⟩
  | .hbm, ⟨100, _⟩ => ⟨S16384x32, .f32⟩
  | .hbm, ⟨101, _⟩ => ⟨S16384x32, .f32⟩
  | .hbm, ⟨102, _⟩ => ⟨S16384x32, .f32⟩
  | .hbm, ⟨103, _⟩ => ⟨S_, .f32⟩
  | .hbm, ⟨104, _⟩ => ⟨S16384, .f32⟩
  | .hbm, ⟨105, _⟩ => ⟨S16384, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S1000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v2 : Ref sig .tc := ⟨.hbm, 73, rfl⟩
abbrev main_v3 : Ref sig .tc := ⟨.hbm, 74, rfl⟩
abbrev main_cst : Ref sig .tc := ⟨.hbm, 75, rfl⟩
abbrev main_v4 : Ref sig .tc := ⟨.hbm, 76, rfl⟩
abbrev main_v5 : Ref sig .tc := ⟨.hbm, 77, rfl⟩
abbrev main_cst_0 : Ref sig .tc := ⟨.hbm, 78, rfl⟩
abbrev main_v6 : Ref sig .tc := ⟨.hbm, 79, rfl⟩
abbrev main_v7 : Ref sig .tc := ⟨.hbm, 80, rfl⟩
abbrev main_call3_cst : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_v8 : Ref sig .tc := ⟨.hbm, 94, rfl⟩
abbrev main_cst_1 : Ref sig .tc := ⟨.hbm, 95, rfl⟩
abbrev main_v9 : Ref sig .tc := ⟨.hbm, 96, rfl⟩
abbrev main_v10 : Ref sig .tc := ⟨.hbm, 97, rfl⟩
abbrev main_cst_2 : Ref sig .tc := ⟨.hbm, 98, rfl⟩
abbrev main_v11 : Ref sig .tc := ⟨.hbm, 99, rfl⟩
abbrev main_v12 : Ref sig .tc := ⟨.hbm, 100, rfl⟩
abbrev main_v13 : Ref sig .tc := ⟨.hbm, 101, rfl⟩
abbrev main_v14 : Ref sig .tc := ⟨.hbm, 102, rfl⟩
abbrev main_cst_3 : Ref sig .tc := ⟨.hbm, 103, rfl⟩
abbrev main_v15 : Ref sig .tc := ⟨.hbm, 104, rfl⟩
abbrev main_v16 : Ref sig .tc := ⟨.hbm, 105, rfl⟩
abbrev main_cst_4 : Ref sig .tc := ⟨.hbm, 106, rfl⟩
abbrev main_v17 : Ref sig .tc := ⟨.hbm, 107, rfl⟩
abbrev main_cst_5 : Ref sig .tc := ⟨.hbm, 108, rfl⟩
abbrev main_v18 : Ref sig .tc := ⟨.hbm, 109, rfl⟩

abbrev nD : Nat := 1
abbrev τ : Topo := Topo.v7x

variable {F : FTy → Type} [FloatOps F]
-- ==== Proof.GatherBatch.lean ====
/-
  SEVERAL INDIRECT GATHERS ON ONE DMA SEMAPHORE. The kernel starts four streams on one semaphore before it waits for any
  of them. Here every ROW of every stream is one transfer of a counted batch (`Transfers.Batch`): a stream of `o` rows is
  the batch's next `o` transfers (`wp_gatherBatch`), and each wait consumes a stream's worth of units, the last handing
  every row's delivery back (`Transfers.wp_waitBatchMulO`, `Transfers.wp_waitBatchAllO`).
-/
module

public import Idealize.ShloMosaic.Lib.Batch
public import Idealize.ShloMosaic.Lib.SparseCore.Stream

@[expose] public section

noncomputable section

namespace Cert.Proof.GatherBatch

open Idealize.ShloMosaic
open Idealize.ShloMosaic.SparseCore
open Idealize.ShloMosaic.Transfers
open Idealize.SL
open Idealize.SL.BI (sProp Storable bigSep)
open scoped Idealize.SL.BI
open Idealize.SL.BI.BIBase Idealize.SL.BI.Laws Idealize.SL.Sem Idealize.SL.ProofMode
open Idealize.SL.RA

section Pending

variable {M : Type} [URA M] {n : ℕ}

/-- The members of a batch from the `k`-th on are the next `o` of them and those from the `(k + o)`-th on. -/
theorem pending_split (k o : ℕ) (h : k + o ≤ n) (Φ : Fin n → sProp M) :
    bigSep (pending k) Φ
      = iprop((bigSep Finset.univ fun j : Fin o => Φ ⟨k + j.val, by omega⟩) ∗ bigSep (pending (k + o)) Φ) := by
  induction o generalizing k with
  | zero =>
    rw [show (bigSep Finset.univ fun j : Fin 0 => Φ ⟨k + j.val, by omega⟩) = iprop(emp) by
      rw [Finset.univ_eq_empty, BI.bigSep_empty]; rfl]
    exact BI.Entails.antisymm (show bigSep (pending k) Φ ⊢ iprop(emp ∗ bigSep (pending k) Φ) from emp_sep.2)
      (show iprop(emp ∗ bigSep (pending k) Φ) ⊢ bigSep (pending k) Φ from emp_sep.1)
  | succ o ih =>
    rw [show bigSep (pending k) Φ = iprop(Φ ⟨k, by omega⟩ ∗ bigSep (pending (k + 1)) Φ) by
        rw [pending_succ (by omega : k < n), BI.bigSep_insert (not_mem_pending_succ _)]; rfl,
      ih (k + 1) (by omega), Fin.univ_succ, Finset.cons_eq_insert, BI.bigSep_insert (by simp), BI.bigSep_map,
      show k + (o + 1) = k + 1 + o by omega]
    have e : (bigSep Finset.univ fun j : Fin o => Φ ⟨k + 1 + j.val, by omega⟩)
        = bigSep Finset.univ fun j : Fin o => Φ ⟨k + (Fin.succEmb o j).val, by have := j.isLt; simp; omega⟩ :=
      BI.bigSep_congr fun j _ => congrArg Φ (Fin.ext (by simp; omega))
    rw [e]
    exact BI.Entails.antisymm
      (show iprop(Φ ⟨k, by omega⟩ ∗ (bigSep Finset.univ fun j : Fin o => Φ ⟨k + (Fin.succEmb o j).val, by have := j.isLt; simp; omega⟩)
          ∗ bigSep (pending (k + 1 + o)) Φ) ⊢ iprop((Φ ⟨k, by omega⟩ ∗ (bigSep Finset.univ fun j : Fin o => Φ ⟨k + (Fin.succEmb o j).val, by have := j.isLt; simp; omega⟩))
          ∗ bigSep (pending (k + 1 + o)) Φ) from sep_assoc.2)
      (show iprop((Φ ⟨k, by omega⟩ ∗ (bigSep Finset.univ fun j : Fin o => Φ ⟨k + (Fin.succEmb o j).val, by have := j.isLt; simp; omega⟩))
          ∗ bigSep (pending (k + 1 + o)) Φ) ⊢ iprop(Φ ⟨k, by omega⟩ ∗ (bigSep Finset.univ fun j : Fin o => Φ ⟨k + (Fin.succEmb o j).val, by have := j.isLt; simp; omega⟩)
          ∗ bigSep (pending (k + 1 + o)) Φ) from sep_assoc.1)

end Pending

section Rule

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- One row's resources: row `j` of the destination at contents `f`, entry `j` of the offset list, a share of the
    source. -/
def rowHeld (src : Memref sig c.2.kind sp s₀ e) (dst : Memref sig c.2.kind .vmem s e) (hg : s₀.Gathers a s)
    (offs : Memref sig c.2.kind .vmem si .i32) (hn : si.numel = s.size hg.axis')
    (q qo : PosShare TreeShare) (fs : Buf (Elt F) (src.view.loc c)) (fo : Buf (Elt F) (offs.view.loc c))
    (j : Fin (s.size hg.axis')) (f : Buf (Elt F) (dst.view.loc c)) : sProp 𝕄 :=
  iprop((dst.view.loc c ↦[(dst.view.slice (s.rowRect hg.axis' j)).set]{fullShare} f)
    ∗ (offs.view.loc c ↦[{offs.view.emb (si.rowMajor.symm (j.cast hn.symm))}]{qo} fo)
    ∗ (src.view.loc c ↦[src.view.set]{q} fs))

/-- A stream issued as the batch's next transfers: holding every row's resources and the batch with `k` transfers
    issued, every word of the list in range (`hin`), each row crediting the batch's `N` units (`hN`), and the `k + j`-th
    delivery what row `j` lands — the destination's row written with the source's row that entry `j` names, the entry
    and the source's share back — (`hD`), the tile goes on with the batch at `k + o` issued. -/
theorem wp_gatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kont : PUnit → Prog (TpuEff nD τ sig (Elt F) Λ c.2) α}
    {qs : Fin (s.size hg.axis') → PosShare TreeShare} {qo : PosShare TreeShare}
    {fs : Buf (Elt F) (src.view.loc c)} {fd : Buf (Elt F) (dst.view.loc c)} {fo : Buf (Elt F) (offs.view.loc c)}
    {n : ℕ} {D : Fin n → sProp 𝕄} {k u : ℕ} (ι : Ix) (N : ℕ)
    (hN : ∀ j, (dst.slice (s.rowRect hg.axis' j) (s.stride_rowRect hg.axis' j)).view.dmaCredit = N)
    (hk : k + s.size hg.axis' ≤ n) (hu : u ≤ k * N)
    (hin : ∀ x, (offs.view.read (Elt F) fo x).toNat < s₀.size hg.axis)
    (hD : ∀ j : Fin (s.size hg.axis'),
      rowHeld c src dst hg offs hn (qs j) qo fs fo j
          ((dst.view.slice (s.rowRect hg.axis' j)).write (Elt F) fd
            (fun i => src.view.read (Elt F) fs (hg.rowIdx (rows (offs.view.read (Elt F) fo) hn hin j) i)) Finset.univ)
        ⊢ D ⟨k + j.val, by omega⟩) :
    iprop((bigSep Finset.univ fun j => rowHeld c src dst hg offs hn (qs j) qo fs fo j fd) ∗ Batch EC c (.dma sem) ι N D k u)
      ⊢ iprop((Batch EC c (.dma sem) ι N D (k + s.size hg.axis') u -∗ wp frame (wpE defs 𝒱 c bd) Set.univ (kont ⟨⟩) Q)
          -∗ wp frame (wpE defs 𝒱 c bd) Set.univ (enqueueIndirectGather hp src dst hg offs hn sem hsrc he hsp hr >>= kont) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun j => gatherRow c src dst hg sem hsrc he hsp hr j (r j)
  have hagree : S.RowsAgree := by
    intro j x x' ρ ρ' h h'
    obtain ⟨_, _, rfl⟩ := Option.map_eq_some_iff.mp h
    obtain ⟨_, _, rfl⟩ := Option.map_eq_some_iff.mp h'
    rfl
  have hnames : ∀ j, S.row j (S.word fo j) = some (rd j) := fun j => by
    change (rowOf (s₀.size hg.axis) (offs.view.read (Elt F) fo (S.entry j))).map _ = _
    rw [rowOf_of_lt (hin _)]; rfl
  have hsum : ∑ j, (rd j).dst.view.dmaCredit = s.size hg.axis' * N := by
    rw [Finset.sum_congr rfl (fun j _ => hN j), Finset.sum_const, Finset.card_univ, Fintype.card_fin, smul_eq_mul]
  unfold Batch
  iintro ⟨Hrows, ⟨%γ, %γ₀, %κ, #Hinv, Hissue, Hpaid, Hcred⟩⟩ Hk
  ihave Hsplit := (Entails.of_eq (pending_split k (s.size hg.axis') hk fun t => count EC (γ t) 0)) $$ Hissue
  icases Hsplit with ⟨Hnow, Hlater⟩
  iapply (wp_enqueueIndirectDma 𝒱 c bd Set.univ (qo := qo) (fo := fo) (rd := rd) ι (s.size hg.axis' * N) hagree hnames hsum) $$ [Hrows Hnow]
  · have hrow : ∀ j : Fin (s.size hg.axis'),
        iprop(inv κ (batchBody EC (c, SemLoc.dma sem) N D γ γ₀)
            ∗ (rowHeld c src dst hg offs hn (qs j) qo fs fo j fd ∗ count EC (γ ⟨k + j.val, by omega⟩) 0))
          ⊢ iprop(S.heldEntry qo fo j ∗ (S.heldEntry qo fo j -∗ rowRes c (rd j))) := fun j => by
      unfold rowHeld
      iintro ⟨#Hinv, ⟨⟨Hd, He, Hs⟩, Hc⟩⟩
      isplitl [He]; · iexact He
      iintro He
      unfold rowRes
      iexists qs j, fs, iprop((dst.view.loc c ↦[(dst.view.slice (s.rowRect hg.axis' j)).set]{fullShare}
        ((dst.view.slice (s.rowRect hg.axis' j)).write (Elt F) fd (fun i => src.view.read (Elt F) fs (hg.rowIdx (r j) i)) Finset.univ)) ∗ S.heldEntry qo fo j)
      isplitl [Hs]; · iexact Hs
      isplitl [Hd He]
      · iapply writeUpdate_frame
        isplitl [Hd]
        · iapply (pointsTo_writeUpdate c (v := dst.view.slice (s.rowRect hg.axis' j)) subset_rfl) $$ Hd
        · iexact He
      · rw [show (rd j).dst.view.amount (SemLoc.dma sem) = N from hN j]
        iapply (batch_creditUpdate EC (N := N) (γ := γ) (γ₀ := γ₀) ⟨k + j.val, by omega⟩ (sep_assoc.1.trans (hD j)))
        isplitr; · iexact Hinv
        iexact Hc
    unfold Stream.res
    ihave H := bigSep_sep_in _ _ _ $$ [Hrows Hnow]; · isplitl [Hrows] <;> iassumption
    iapply (bigSep_mono_pers Finset.univ _ _ _ fun j _ => hrow j)
    isplitr; · iexact Hinv
    iexact H
  · iintro Hnew
    iapply Hk
    iexists γ, γ₀, κ
    isplitr; · iexact Hinv
    isplitl [Hlater]; · iexact Hlater
    isplitl [Hpaid]; · iexact Hpaid
    rw [show (k + s.size hg.axis') * N - u = (k * N - u) + s.size hg.axis' * N by rw [Nat.add_mul]; omega, ← tallyAt_add]
    icombine Hcred Hnew as H
    iexact H

end Rule

end Cert.Proof.GatherBatch

end
-- ==== Proof.Base.lean ====
/-
  The program as the launch theorem sees it, the ghost state, and one ROUND of the SparseCore kernel: a tile's fetch of
  its 512 indices, its four gathers on one semaphore, its write-out. The printed kernel is three rounds (`cc1_k_rounds`).
-/
module

public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 2) fun p => (pcfgs (F := F) p).Adm
abbrev K : SparseCore.Cfg τ sig (ΛP (F := F)) 1 := sc (F := F)
/-- The call runs on 16 tiles of each SparseCore. -/
theorem nSub_zero : (K (F := F)).nSub 0 = 16 := rfl
/-- The call runs on 2 SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's layout: the four handshake semaphores are distinct and unscoped where they must be. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the two pipelines' rounds, the transfers' counters -/

abbrev UH : Type := URounds (GSem nD τ sig) ℕ
abbrev UP : Type := URounds (GSem nD τ sig) Unit
abbrev UU : Type := UH × (UP × Counters)
abbrev EH : Emb UH (MT nD τ sig (HIx 1) (Elt F) ℕ UU ℕ) := embL
def EP : Emb UP (MT nD τ sig (HIx 1) (Elt F) ℕ UU ℕ) := (Emb.inl : Emb UP (UP × Counters)).trans embR
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## Values -/

/-- A row number read off a word, held below the table's height. -/
def rowNo (w : BitVec 32) : Fin 1000000 := ⟨w.toNat % 1000000, Nat.mod_lt _ (by decide)⟩

/-- The list position of output row `y`: the 16384 words stand in a 128 by 128 array. -/
def listPos (y : Fin 16384) : S128x128.Idx := ValueIdx.ix2 (n0 := 128) (n1 := 128) ⟨y.val / 128, by omega⟩ ⟨y.val % 128, by omega⟩

/-- The gathered array: row `y` is the table's row that word `y` names. -/
def gathered (ft : S1000000x128.Idx → Elt F .f32) (fi : S128x128.Idx → Elt F .i32) : S16384x128.Idx → Elt F .f32 :=
  fun y => ft (ValueIdx.ix2 (n0 := 1000000) (n1 := 128) (rowNo (fi (listPos (y 0)))) (y 1))

/-! ## One round -/

section Round

variable [FloatOps F]

abbrev cV (L : grid1.Coords) : Fin τ.nSC := (L 0).castLE hcore1
abbrev jV (L : grid1.Coords) : Fin τ.nSub := (L 1).castLE hsub1

abbrev iScr : Memref sig .scVector .vmem S4x128 .i32 := Memref.whole cc1_scratch0
abbrev rScr : Memref sig .scVector .vmem S512x128 .f32 := Memref.whole cc1_scratch1
abbrev gSem : DmaSem sig := cc1_scratch2.sem

/-- Chunk `ch` of the row scratch and row `ch` of the index scratch, as the kernel addresses them. -/
abbrev rChunk (o : ℕ) (h : ∀ a, (![o, 0] : Fin 2 → Nat) a + S128x128.size a ≤ S512x128.size a) : Memref sig .scVector .vmem S128x128 .f32 :=
  rScr.slice (Rect.unit (s := S512x128) ![o, 0] S128x128.size h) (fun _ => rfl)
abbrev iChunk (o : ℕ) (h : ∀ a, (![o, 0] : Fin 2 → Nat) a + S1x128.size a ≤ S4x128.size a) : Memref sig .scVector .vmem S128 .i32 :=
  (iScr.slice (Rect.unit (s := S4x128) ![o, 0] S1x128.size h) (fun _ => rfl)).squeeze S128 squeezes_S1x128_S128
abbrev allRows (tab : Memref sig .scVector .hbm S1000000x128 .f32) : Memref sig .scVector .hbm S1000000x128 .f32 :=
  tab.slice (Rect.unit (s := S1000000x128) ![0, 0] S1000000x128.size inb_S1000000x128_S1000000x128_0_0) (fun _ => rfl)
abbrev iPart (L : grid1.Coords) (idx : Memref sig .scVector .hbm S128x128 .i32) : Memref sig .scVector .hbm S4x128 .i32 :=
  idx.slice (Rect.unit (s := S128x128) (k1_off1 L) S4x128.size (k1_off1_inb L)) (fun _ => rfl)
abbrev oPart (L : grid1.Coords) (out : Memref sig .scVector .hbm S16384x128 .f32) : Memref sig .scVector .hbm S512x128 .f32 :=
  out.slice (Rect.unit (s := S16384x128) (k1_off2 L) S512x128.size (k1_off2_inb L)) (fun _ => rfl)

/-- One stream of a round: the 128 rows that row `oi` of the index scratch names, into rows `or …` of the row scratch. -/
abbrev stream (L : grid1.Coords) (tab : Memref sig .scVector .hbm S1000000x128 .f32) (o oi : ℕ)
    (h : ∀ a, (![o, 0] : Fin 2 → Nat) a + S128x128.size a ≤ S512x128.size a) (hi : ∀ a, (![oi, 0] : Fin 2 → Nat) a + S1x128.size a ≤ S4x128.size a) :
    Prog (TpuEff nD τ sig (Elt F) Λ₀ (.scVector (cV L) (jV L))) PUnit :=
  SparseCore.enqueueIndirectGather rfl (allRows tab) (rChunk o h) gathers_S1000000x128_S128x128 (iChunk oi hi) rfl gSem (View.wordExact_bits rfl) rfl (Or.inl rfl)

/-- The wait of one stream. -/
abbrev streamWait (L : grid1.Coords) (tab : Memref sig .scVector .hbm S1000000x128 .f32) (o : ℕ)
    (h : ∀ a, (![o, 0] : Fin 2 → Nat) a + S128x128.size a ≤ S512x128.size a) :
    Prog (TpuEff nD τ sig (Elt F) Λ₀ (.scVector (cV L) (jV L))) PUnit :=
  SparseCore.waitIndirectGather gSem (allRows tab) (rChunk o h) (View.wordExact_bits rfl) (View.wordExact_bits rfl)

/-- One round: the index fetch on `sA`, the four streams on one semaphore and their waits, the write-out on `sB`. -/
def round (L : grid1.Coords) (tab : Memref sig .scVector .hbm S1000000x128 .f32) (idx : Memref sig .scVector .hbm S128x128 .i32)
    (out : Memref sig .scVector .hbm S16384x128 .f32) (sA sB : DmaSem sig) : Prog (TpuEff nD τ sig (Elt F) Λ₀ (.scVector (cV L) (jV L))) PUnit := do
  Prog.lift (.enqueueDma (iPart L idx) (.here iScr) (.dma sA) (View.wordExact_bits rfl) (Memref.isWhole_whole cc1_scratch0).wordExact ⟨Or.inl rfl, trivial⟩)
  Prog.lift (.waitDma2 sA (iPart L idx) iScr (View.wordExact_bits rfl) (Memref.isWhole_whole cc1_scratch0).wordExact)
  stream L tab 0 0 inb_S512x128_S128x128_0_0 inb_S4x128_S1x128_0_0
  stream L tab 128 1 inb_S512x128_S128x128_128_0 inb_S4x128_S1x128_1_0
  stream L tab 256 2 inb_S512x128_S128x128_256_0 inb_S4x128_S1x128_2_0
  stream L tab 384 3 inb_S512x128_S128x128_384_0 inb_S4x128_S1x128_3_0
  streamWait L tab 0 inb_S512x128_S128x128_0_0
  streamWait L tab 128 inb_S512x128_S128x128_128_0
  streamWait L tab 256 inb_S512x128_S128x128_256_0
  streamWait L tab 384 inb_S512x128_S128x128_384_0
  Prog.lift (.enqueueDma rScr (.here (oPart L out)) (.dma sB) (Memref.isWhole_whole cc1_scratch1).wordExact (View.wordExact_bits rfl) ⟨Or.inl rfl, trivial⟩)
  Prog.lift (.waitDma2 sB rScr (oPart L out) (Memref.isWhole_whole cc1_scratch1).wordExact (View.wordExact_bits rfl))

abbrev tabU : Memref sig .scVector .hbm S1000000x128 .f32 := Memref.whole main_v0_0_scv
abbrev tabI : Memref sig .scVector .hbm S1000000x128 .f32 := Memref.whole main_v0_1_scv
abbrev idxU : Memref sig .scVector .hbm S128x128 .i32 := Memref.whole main_v1_scv
abbrev idxP : Memref sig .scVector .hbm S128x128 .i32 := Memref.whole main_v2_scv
abbrev idxN : Memref sig .scVector .hbm S128x128 .i32 := Memref.whole main_v3_scv
abbrev outU : Memref sig .scVector .hbm S16384x128 .f32 := Memref.whole main_v4_0_scv
abbrev outP : Memref sig .scVector .hbm S16384x128 .f32 := Memref.whole main_v4_1_scv
abbrev outN : Memref sig .scVector .hbm S16384x128 .f32 := Memref.whole main_v4_2_scv

/-- The kernel as the launch calls it on a tile. -/
abbrev task (L : grid1.Coords) : Prog (TpuEff nD τ sig (Elt F) Λ₀ (.scVector (cV L) (jV L))) PUnit :=
  cc1_k L tabU (Memref.isWhole_whole _) tabI (Memref.isWhole_whole _) idxU (Memref.isWhole_whole _) idxP (Memref.isWhole_whole _) idxN (Memref.isWhole_whole _)
    outU (Memref.isWhole_whole _) outP (Memref.isWhole_whole _) outN (Memref.isWhole_whole _) iScr (Memref.isWhole_whole _) rScr (Memref.isWhole_whole _)
    cc1_scratch2 cc1_scoped0 cc1_scoped1 cc1_scoped2 cc1_scoped3 cc1_scoped4 cc1_scoped5

set_option maxRecDepth 65536 in
/-- The printed kernel is three rounds: the users, the positive items, the negative items. -/
theorem task_eq (L : grid1.Coords) :
    task (F := F) L = (round L tabU idxU outU cc1_scoped0.sem cc1_scoped1.sem >>= fun _ =>
      round L tabI idxP outP cc1_scoped2.sem cc1_scoped3.sem >>= fun _ => round L tabI idxN outN cc1_scoped4.sem cc1_scoped5.sem) := rfl

end Round

end Cert.Proof.K

end
-- ==== Proof.Rows.lean ====
/-
  What one round's streams hold and deliver, row by row: the 512 rows of the row scratch, the 512 entries of the index
  scratch and 512 pieces of the table's share, and each stream's 128 of them.
-/
module

public import proofs.«01_k».proof.Proof.Base

@[expose] public section

noncomputable section

namespace Cert.Proof.K

open Cert.KernelIdeal Cert.KernelIdeal.Gen
open Cert.Proof.GatherBatch
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

/-- Entry `t` of the index scratch, row-major. -/
def entryAt (t : Fin 512) : S4x128.Idx := ix2 (n0 := 4) (n1 := 128) ⟨t.val / 128, by omega⟩ ⟨t.val % 128, by omega⟩

/-- Every entry of the index scratch is one of the 512. -/
theorem entryAt_bijective : Function.Bijective entryAt := by
  constructor
  · intro t t' h
    have h0 : t.val / 128 = t'.val / 128 := congrArg Fin.val (congrFun h 0)
    have h1 : t.val % 128 = t'.val % 128 := congrArg Fin.val (congrFun h 1)
    exact Fin.ext (by omega)
  · intro y
    have h0 : (y 0).val < 4 := (y 0).isLt
    have h1 : (y 1).val < 128 := (y 1).isLt
    refine ⟨⟨128 * (y 0).val + (y 1).val, by omega⟩, ?_⟩
    funext a
    match a with
    | 0 => exact Fin.ext (show (128 * (y 0).val + (y 1).val) / 128 = (y 0).val by omega)
    | 1 => exact Fin.ext (show (128 * (y 0).val + (y 1).val) % 128 = (y 1).val by omega)

/-- An element is in row `k` of a view exactly when it stands at an index whose coordinate on the axis is `k`. -/
theorem mem_row {κ : Kind} {sp : Space} {s : Shape} {e : EltTy} (v : View sig κ sp s e) (a : Fin s.rank) (k : Fin (s.size a)) (i : v.ty.Idx) :
    i ∈ (v.slice (s.rowRect a k)).set ↔ ∃ x : s.Idx, x a = k ∧ v.emb x = i := by
  simp only [View.set, Finset.mem_map, Finset.mem_univ, true_and, Function.Embedding.trans_apply]
  constructor
  · rintro ⟨j, rfl⟩; exact ⟨_, Shape.rowRect_emb_axis a k j, rfl⟩
  · rintro ⟨x, rfl, rfl⟩; exact ⟨s.rowProj a x, by rw [Shape.rowRect_emb_rowProj]⟩

/-- The elements of row `t` of the row scratch. -/
def scrRow (t : Fin 512) : Finset rScr.view.ty.Idx := (rScr.view.slice (S512x128.rowRect 0 t)).set

/-- A row of the row scratch is the entries with that first coordinate. -/
theorem mem_scrRow (t : Fin 512) (i : rScr.view.ty.Idx) : i ∈ scrRow t ↔ ∃ x : S512x128.Idx, (x 0).val = t.val ∧ rScr.view.emb x = i := by
  refine (mem_row rScr.view 0 t i).trans ⟨fun ⟨x, h, e⟩ => ⟨x, congrArg Fin.val h, e⟩, fun ⟨x, h, e⟩ => ⟨x, Fin.ext h, e⟩⟩

section Held

variable (c : Fin τ.nSC) (s : Fin τ.nSub) (d : Dev nD)

abbrev thr : Thread nD τ := V d c s

variable (tab : Memref sig .scVector .hbm S1000000x128 .f32) (q : PosShare TreeShare)
  (ft : Buf (Elt F) (tab.view.loc (thr c s d))) (fl : Buf (Elt F) (iScr.view.loc (thr c s d)))

/-- Row `t` of the row scratch at contents `f`, entry `t` of the index scratch, piece `t` of the table's share. -/
def held (f : Buf (Elt F) (rScr.view.loc (thr c s d))) (t : Fin 512) : sProp 𝕄 :=
  iprop((rScr.view.loc (thr c s d) ↦[scrRow t]{fullShare} f)
    ∗ (iScr.view.loc (thr c s d) ↦[{iScr.view.emb (entryAt t)}]{fullShare} fl)
    ∗ (tab.view.loc (thr c s d) ↦[tab.view.set]{pieceOf q 512 (by decide) t} ft))

instance held_storable (f : Buf (Elt F) (rScr.view.loc (thr c s d))) (t : Fin 512) : Storable (upEmb : UEmb _ 𝕄) (held c s d tab q ft fl f t) := by
  unfold held; infer_instance

/-- The two scratch buffers and the table's share, whole, are their 512 rows, entries and pieces. -/
theorem held_all (f : Buf (Elt F) (rScr.view.loc (thr c s d))) :
    (bigSep Finset.univ (held c s d tab q ft fl f) : sProp 𝕄)
      = iprop((rScr.view.loc (thr c s d) ↦[rScr.view.set]{fullShare} f) ∗ (iScr.view.loc (thr c s d) ↦[iScr.view.set]{fullShare} fl)
          ∗ (tab.view.loc (thr c s d) ↦[tab.view.set]{q} ft)) := by
  have e1 : (rScr.view.loc (thr c s d) ↦[rScr.view.set]{fullShare} f : sProp 𝕄)
      = bigSep Finset.univ fun t : Fin 512 => rScr.view.loc (thr c s d) ↦[scrRow t]{fullShare} f :=
    pointsTo_rows (thr c s d) rScr.view 0 fullShare f
  rw [e1, pointsTo_entries (thr c s d) iScr.view entryAt entryAt_bijective fullShare fl,
    pointsTo_piecesOf tab.view.set ft (by decide : 0 < 512) q]
  unfold held
  rw [bigSep_sep', bigSep_sep']

/-- The table's slice of all its rows is the table. -/
theorem set_allRows : (allRows tab).view.set = tab.view.set := by
  ext i
  simp only [View.set, Finset.mem_map, Finset.mem_univ, true_and]
  constructor
  · rintro ⟨x, rfl⟩; exact ⟨_, rfl⟩
  · rintro ⟨x, rfl⟩
    refine ⟨x, congrArg tab.view.emb (funext fun a => Fin.ext ?_)⟩
    match a with
    | 0 => show 0 + 1 * (x 0).val = (x 0).val; omega
    | 1 => show 0 + 1 * (x 1).val = (x 1).val; omega

variable (o oi : ℕ) (h : ∀ a, (![o, 0] : Fin 2 → Nat) a + S128x128.size a ≤ S512x128.size a) (hi : ∀ a, (![oi, 0] : Fin 2 → Nat) a + S1x128.size a ≤ S4x128.size a)

include h in
/-- A chunk ends inside the scratch. -/
theorem o_le : o + 128 ≤ 512 := h 0

/-- The row, in the scratch, of a chunk's entry. -/
theorem emb_rChunk_0 (x : S128x128.Idx) : ((Rect.unit (s := S512x128) ![o, 0] S128x128.size h).emb x 0).val = o + (x 0).val := by
  show o + 1 * (x 0).val = o + (x 0).val; omega
/-- The column, in the scratch, of a chunk's entry. -/
theorem emb_rChunk_1 (x : S128x128.Idx) : ((Rect.unit (s := S512x128) ![o, 0] S128x128.size h).emb x 1).val = (x 1).val := by
  show 0 + 1 * (x 1).val = (x 1).val; omega

/-- Row `j` of a chunk is row `o + j` of the row scratch. -/
theorem set_chunkRow (j : Fin 128) :
    (((rChunk o h).view.slice (S128x128.rowRect 0 j)).set : Finset rScr.view.ty.Idx) = scrRow ⟨o + j.val, by have := o_le o h; omega⟩ := by
  ext i
  refine (mem_row (rChunk o h).view 0 j i).trans (Iff.trans ?_ (mem_scrRow _ i).symm)
  constructor
  · rintro ⟨x, hx, rfl⟩
    exact ⟨_, (emb_rChunk_0 o h x).trans (by rw [hx]), rfl⟩
  · rintro ⟨y, hy, rfl⟩
    refine ⟨ix2 (n0 := 128) (n1 := 128) j (y 1), rfl, congrArg rScr.view.emb (funext fun a => Fin.ext ?_)⟩
    match a with
    | 0 => exact (emb_rChunk_0 o h _).trans hy.symm
    | 1 => exact emb_rChunk_1 o h _

include h in
/-- Entry `j` of a list row is entry `o + j` of the index scratch. -/
theorem emb_iChunk (ho : o = 128 * oi) (j : Fin 128) (p : S128.Idx) (hp : (p 0).val = j.val) :
    (iChunk oi hi).view.emb p = iScr.view.emb (entryAt ⟨o + j.val, by have := o_le o h; omega⟩) := by
  have e : (Shape.reshapeEquiv (squeezes_S1x128_S128.numel_eq) p : S1x128.Idx) = ix2 (n0 := 1) (n1 := 128) 0 j :=
    Shape.reshapeEquiv_eq_of_rowMajor _ (by
      rw [Shape.rowMajor_val_two, Shape.rowMajor_val_one, hp]
      show 0 * 128 + j.val = j.val
      omega)
  show iScr.view.emb ((Rect.unit (s := S4x128) ![oi, 0] S1x128.size hi).emb (Shape.reshapeEquiv (squeezes_S1x128_S128.numel_eq) p)) = _
  rw [e]
  refine congrArg iScr.view.emb (funext fun a => Fin.ext ?_)
  have := o_le o h
  have hj := j.isLt
  match a with
  | 0 =>
    have : (o + j.val) / 128 = oi := by omega
    show oi + 1 * 0 = (o + j.val) / 128; omega
  | 1 =>
    have : (o + j.val) % 128 = j.val := by omega
    show 0 + 1 * j.val = (o + j.val) % 128; omega

/-- What the row scratch holds once every stream has landed: row `t` is the table's row that entry `t` names. -/
def fetched (il : S4x128.Idx → Elt F .i32) : S512x128.Idx → Elt F .f32 :=
  fun y => tab.view.read (Elt F) ft (ix2 (n0 := 1000000) (n1 := 128) (rowNo (il (entryAt (y 0)))) (y 1))

/-- One row of one stream's resources is one of the 512. -/
theorem rowHeld_eq (ho : o = 128 * oi) (f : Buf (Elt F) (rScr.view.loc (thr c s d))) (j : Fin 128) :
    (rowHeld (thr c s d) (allRows tab) (rChunk o h) gathers_S1000000x128_S128x128 (iChunk oi hi) rfl
        (pieceOf q 512 (by decide) ⟨o + j.val, by have := o_le o h; omega⟩) fullShare ft fl j f : sProp 𝕄)
      = held c s d tab q ft fl f ⟨o + j.val, by have := o_le o h; omega⟩ := by
  unfold rowHeld held
  have e1 := set_chunkRow o h j
  have e2 := emb_iChunk o oi h hi ho j (S128.rowMajor.symm (j.cast rfl)) (by
    have := Shape.rowMajor_val_one (S128.rowMajor.symm (j.cast rfl)); rw [← this, Equiv.apply_symm_apply]; rfl)
  have e3 := set_allRows tab
  have E1 : ((rChunk o h).view.loc (thr c s d) ↦[((rChunk o h).view.slice (S128x128.rowRect 0 j)).set]{fullShare} f : sProp 𝕄)
      = rScr.view.loc (thr c s d) ↦[scrRow ⟨o + j.val, by have := o_le o h; omega⟩]{fullShare} f :=
    congrArg (fun S => (rScr.view.loc (thr c s d) ↦[S]{fullShare} f : sProp 𝕄)) e1
  have E2 : ((iChunk oi hi).view.loc (thr c s d) ↦[{(iChunk oi hi).view.emb (S128.rowMajor.symm (j.cast rfl))}]{fullShare} fl : sProp 𝕄)
      = iScr.view.loc (thr c s d) ↦[{iScr.view.emb (entryAt ⟨o + j.val, by have := o_le o h; omega⟩)}]{fullShare} fl :=
    congrArg (fun i => (iScr.view.loc (thr c s d) ↦[{i}]{fullShare} fl : sProp 𝕄)) e2
  have E3 : ((allRows tab).view.loc (thr c s d) ↦[(allRows tab).view.set]{pieceOf q 512 (by decide) ⟨o + j.val, by have := o_le o h; omega⟩} ft : sProp 𝕄)
      = tab.view.loc (thr c s d) ↦[tab.view.set]{pieceOf q 512 (by decide) ⟨o + j.val, by have := o_le o h; omega⟩} ft :=
    congrArg (fun S => (tab.view.loc (thr c s d) ↦[S]{pieceOf q 512 (by decide) ⟨o + j.val, by have := o_le o h; omega⟩} ft : sProp 𝕄)) e3
  exact congrArg₂ BI.sep E1 (congrArg₂ BI.sep E2 E3)

include h in
/-- Every word a stream reads is one the fetch landed. -/
theorem read_iChunk (ho : o = 128 * oi) (p : S128.Idx) :
    (iChunk oi hi).view.read (Elt F) fl p = iScr.view.read (Elt F) fl (entryAt ⟨o + (p 0).val, by have := o_le o h; have : (p 0).val < 128 := (p 0).isLt; omega⟩) := by
  have e := emb_iChunk o oi h hi ho (p 0) p rfl
  exact congrArg fl e

/-- What a stream's row lands is the fetched row. -/
theorem rowHeld_landed (ho : o = 128 * oi) (f f' : Buf (Elt F) (rScr.view.loc (thr c s d)))
    (hin : ∀ x, ((iChunk oi hi).view.read (Elt F) fl x).toNat < S1000000x128.size (gathers_S1000000x128_S128x128).axis) (j : Fin 128) :
    (rowHeld (thr c s d) (allRows tab) (rChunk o h) gathers_S1000000x128_S128x128 (iChunk oi hi) rfl
        (pieceOf q 512 (by decide) ⟨o + j.val, by have := o_le o h; omega⟩) fullShare ft fl j
        (((rChunk o h).view.slice (S128x128.rowRect 0 j)).write (Elt F) f
          (fun i => (allRows tab).view.read (Elt F) ft ((gathers_S1000000x128_S128x128).rowIdx (SparseCore.rows ((iChunk oi hi).view.read (Elt F) fl) rfl hin j) i)) Finset.univ) : sProp 𝕄)
      ⊢ held c s d tab q ft fl (rScr.view.write (Elt F) f' (fetched c s d tab ft (iScr.view.read (Elt F) fl)) Finset.univ) ⟨o + j.val, by have := o_le o h; omega⟩ := by
  rw [rowHeld_eq c s d tab q ft fl o oi h hi ho]
  unfold held
  refine sep_mono_left (Entails.of_eq (pointsTo_congr fun i hiS => ?_))
  rw [← set_chunkRow o h j] at hiS
  obtain ⟨x, -, rfl⟩ := Finset.mem_map.mp hiS
  rw [View.write_emb_of_mem _ _ (Finset.mem_univ _)]
  show _ = rScr.view.write (Elt F) f' _ Finset.univ (rScr.view.emb ((Rect.unit (s := S512x128) ![o, 0] S128x128.size h).emb ((S128x128.rowRect 0 j).emb x)))
  rw [View.write_emb_of_mem _ _ (Finset.mem_univ _)]
  refine congrArg (_root_.cast _) ?_
  unfold fetched
  show tab.view.read (Elt F) ft ((Rect.unit (s := S1000000x128) ![0, 0] S1000000x128.size inb_S1000000x128_S1000000x128_0_0).emb _) = _
  refine congrArg (tab.view.read (Elt F) ft) (funext fun a => Fin.ext ?_)
  have hx0 : ((S128x128.rowRect 0 j).emb x 0) = j := Shape.rowRect_emb_axis 0 j x
  have hrow : ((Rect.unit (s := S512x128) ![o, 0] S128x128.size h).emb ((S128x128.rowRect 0 j).emb x) 0)
      = (⟨o + j.val, by have := o_le o h; omega⟩ : Fin 512) := Fin.ext ((emb_rChunk_0 o h _).trans (by rw [hx0]))
  match a with
  | 0 =>
    have hr := Shape.Gathers.rowIdx_axis gathers_S1000000x128_S128x128 (SparseCore.rows ((iChunk oi hi).view.read (Elt F) fl) rfl hin j) x
    have hp : ((S128.rowMajor.symm (j.cast rfl : Fin S128.numel)) 0).val = j.val := by
      rw [← Shape.rowMajor_val_one (S128.rowMajor.symm (j.cast rfl)), Equiv.apply_symm_apply]; rfl
    have hw := read_iChunk c s d fl o oi h hi ho (S128.rowMajor.symm (j.cast rfl))
    have hlt := hin (S128.rowMajor.symm (j.cast rfl))
    have hrow' : ((Rect.unit (s := S512x128) ![o, 0] S128x128.size h).emb ((S128x128.rowRect 0 j).emb x) 0)
      = (⟨o + ((S128.rowMajor.symm (j.cast rfl : Fin S128.numel)) 0).val, by rw [hp]; have := o_le o h; omega⟩ : Fin 512) := hrow.trans (Fin.ext (congrArg (o + ·) hp.symm))
    show 0 + 1 * ((gathers_S1000000x128_S128x128).rowIdx _ x (gathers_S1000000x128_S128x128).axis).val = (iScr.view.read (Elt F) fl (entryAt _)).toNat % 1000000
    refine (Nat.zero_add _).trans ((Nat.one_mul _).trans ((congrArg Fin.val hr).trans ?_))
    exact (Nat.mod_eq_of_lt hlt).symm.trans (congrArg (fun w : BitVec 32 => w.toNat % 1000000)
      (hw.trans (congrArg (fun t => iScr.view.read (Elt F) fl (entryAt t)) hrow'.symm)))
  | 1 =>
    show 0 + 1 * ((gathers_S1000000x128_S128x128).rowIdx _ x 1).val = _
    refine (Nat.zero_add _).trans ((Nat.one_mul _).trans ((Shape.Gathers.rowIdx_of_ne gathers_S1000000x128_S128x128 _ x 1 (by decide)).trans ?_))
    refine ((emb_rChunk_1 o h _).trans ?_).symm
    exact Shape.rowRect_emb_of_ne (s := S128x128) 0 j x (b := 1) (by decide)

end Held

end Cert.Proof.K

end
-- ==== Proof.Tile.lean ====
/-
  One round run: the index fetch, the four streams as one batch of 512 rows, their waits, the write-out; then the three
  rounds of a tile.
-/
module

public import proofs.«01_k».proof.Proof.Rows

@[expose] public section

noncomputable section

namespace Cert.Proof.K

open Cert.KernelIdeal Cert.KernelIdeal.Gen
open Cert.Proof.GatherBatch
open Idealize.ShloMosaic
open Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- 512 members are four times 128, in order. -/
theorem bigSep_quarters (Φ : Fin 512 → sProp 𝕄) :
    bigSep Finset.univ Φ = iprop((bigSep Finset.univ fun j : Fin 128 => Φ ⟨0 + j.val, by omega⟩) ∗ (bigSep Finset.univ fun j : Fin 128 => Φ ⟨128 + j.val, by omega⟩)
      ∗ (bigSep Finset.univ fun j : Fin 128 => Φ ⟨256 + j.val, by omega⟩) ∗ (bigSep Finset.univ fun j : Fin 128 => Φ ⟨384 + j.val, by omega⟩)
      ∗ bigSep (pending 512) Φ) := by
  rw [← pending_zero, pending_split 0 128 (by omega) Φ, pending_split (0 + 128) 128 (by omega) Φ, pending_split (0 + 128 + 128) 128 (by omega) Φ,
    pending_split (0 + 128 + 128 + 128) 128 (by omega) Φ]

section Round

variable (d : Dev nD) (L : grid1.Coords)
variable (tab : Memref sig .scVector .hbm S1000000x128 .f32) (idx : Memref sig .scVector .hbm S128x128 .i32)
  (out : Memref sig .scVector .hbm S16384x128 .f32) (sA sB : DmaSem sig)
variable (q : PosShare TreeShare) (ft : Buf (Elt F) (tab.view.loc (V d (cV L) (jV L)))) (fi : Buf (Elt F) ((iPart L idx).view.loc (V d (cV L) (jV L))))
  (fo : Buf (Elt F) ((oPart L out).view.loc (V d (cV L) (jV L))))

abbrev thrL : Thread nD τ := V d (cV L) (jV L)

/-- The part of an output a tile leaves: row `y` is the table's row that its `y`-th index names. -/
abbrev left : Buf (Elt F) ((oPart L out).view.loc (thrL d L)) :=
  (oPart L out).view.write (Elt F) fo (fetched (cV L) (jV L) d tab ft ((iPart L idx).view.read (Elt F) fi)) Finset.univ

/-- The units one row credits its semaphore. -/
abbrev rowUnits : ℕ := RefSig.kindCredit RefSig.tileCredit RefSig.tileCredit_eq_zero RefSig.tileCredit_pos Kind.scVector (S128x128.rowShape 0) EltTy.f32

/-- A row credits at least one unit. -/
theorem rowUnits_pos : 0 < rowUnits := by decide

/-- A chunk's transfer credits 128 rows' units. -/
theorem chunkCredit (o : ℕ) (h : ∀ a, (![o, 0] : Fin 2 → Nat) a + S128x128.size a ≤ S512x128.size a) : (rChunk o h).view.dmaCredit = 128 * rowUnits := by
  show RefSig.kindCredit RefSig.tileCredit RefSig.tileCredit_eq_zero RefSig.tileCredit_pos Kind.scVector S128x128 EltTy.f32 = 128 * rowUnits
  decide

/-- One row's transfer credits one row's units. -/
theorem rowCredit (o : ℕ) (h : ∀ a, (![o, 0] : Fin 2 → Nat) a + S128x128.size a ≤ S512x128.size a) (j : Fin 128) :
    ((rChunk o h).slice (S128x128.rowRect 0 j) (S128x128.stride_rowRect 0 j)).view.dmaCredit = rowUnits := rfl

set_option maxHeartbeats 1000000 in
/-- One stream of a round: the batch's next 128 rows, at the table's rows that the fetched words name. -/
theorem wp_stream {α : Type} {Q : α → sProp 𝕄} {kont : PUnit → Prog (TpuEff nD τ sig (Elt F) Λ₀ (.scVector (cV L) (jV L))) α} (o oi : ℕ)
    (h : ∀ a, (![o, 0] : Fin 2 → Nat) a + S128x128.size a ≤ S512x128.size a) (hi : ∀ a, (![oi, 0] : Fin 2 → Nat) a + S1x128.size a ≤ S4x128.size a) (ho : o = 128 * oi)
    (fl : Buf (Elt F) (iScr.view.loc (thrL d L))) (f f' : Buf (Elt F) (rScr.view.loc (thrL d L)))
    (hin : ∀ x, ((iChunk oi hi).view.read (Elt F) fl x).toNat < S1000000x128.size (gathers_S1000000x128_S128x128).axis) :
    iprop((bigSep Finset.univ fun j : Fin 128 => held (cV L) (jV L) d tab q ft fl f ⟨o + j.val, by have := o_le o h; omega⟩)
        ∗ Batch countersEmb (thrL d L) (.dma gSem) (default : HIx 1) rowUnits
            (held (cV L) (jV L) d tab q ft fl (rScr.view.write (Elt F) f' (fetched (cV L) (jV L) d tab ft (iScr.view.read (Elt F) fl)) Finset.univ)) o 0)
      ⊢ iprop((Batch countersEmb (thrL d L) (.dma gSem) (default : HIx 1) rowUnits
            (held (cV L) (jV L) d tab q ft fl (rScr.view.write (Elt F) f' (fetched (cV L) (jV L) d tab ft (iScr.view.read (Elt F) fl)) Finset.univ)) (o + 128) 0
          -∗ wp frame (wpE (defs₀ (F := F)) 𝒱₀ (thrL d L) none) Set.univ (kont ⟨⟩) Q)
        -∗ wp frame (wpE (defs₀ (F := F)) 𝒱₀ (thrL d L) none) Set.univ (stream L tab o oi h hi >>= kont) Q) := by
  have hrows : (bigSep Finset.univ fun j : Fin 128 => held (cV L) (jV L) d tab q ft fl f ⟨o + j.val, by have := o_le o h; omega⟩ : sProp 𝕄)
      = bigSep Finset.univ fun j : Fin 128 => rowHeld (thrL d L) (allRows tab) (rChunk o h) gathers_S1000000x128_S128x128 (iChunk oi hi) rfl
        (pieceOf q 512 (by decide) ⟨o + j.val, by have := o_le o h; omega⟩) fullShare ft fl j f :=
    bigSep_congr fun j _ => (rowHeld_eq (cV L) (jV L) d tab q ft fl o oi h hi ho f j).symm
  rw [hrows]
  exact wp_gatherBatch countersEmb 𝒱₀ (thrL d L) none (hg := gathers_S1000000x128_S128x128) (default : HIx 1) rowUnits (fun j => rowCredit o h j)
    (o_le o h) (Nat.zero_le _) hin (fun j => rowHeld_landed (cV L) (jV L) d tab q ft fl o oi h hi ho f f' hin j)

/-- The wait of a stream that is not the last: 128 rows' units. -/
theorem wp_streamWait {α : Type} {Q : α → sProp 𝕄} {kont : PUnit → Prog (TpuEff nD τ sig (Elt F) Λ₀ (.scVector (cV L) (jV L))) α} (o : ℕ)
    (h : ∀ a, (![o, 0] : Fin 2 → Nat) a + S128x128.size a ≤ S512x128.size a) {D : Fin 512 → sProp 𝕄} (u : ℕ) (hu : u + 128 * rowUnits ≤ rowUnits * 512)
    {O : CellTallies nD τ sig (HIx 1)} {W : Waits sig (HIx 1)} :
    iprop((Transfers.MayWaits (thrL d L) (default : HIx 1) O : sProp 𝕄) ∗ Batch countersEmb (thrL d L) (.dma gSem) (default : HIx 1) rowUnits D 512 u ∗ owes (thrL d L) O W)
      ⊢ iprop((iprop(Batch countersEmb (thrL d L) (.dma gSem) (default : HIx 1) rowUnits D 512 (u + 128 * rowUnits) ∗ owes (thrL d L) O (insert (SemLoc.dma gSem, default) W))
          -∗ wp frame (wpE (defs₀ (F := F)) 𝒱₀ (thrL d L) none) Set.univ (kont ⟨⟩) Q)
        -∗ wp frame (wpE (defs₀ (F := F)) 𝒱₀ (thrL d L) none) Set.univ (streamWait L tab o h >>= kont) Q) := by
  iintro ⟨#Hmw, Hb, HO⟩
  iapply (wp_waitBatchMulO countersEmb 𝒱₀ (thrL d L) none (default : HIx 1) 128 (chunkCredit o h) hu)
  isplitl [Hb]; · iexact Hb
  isplitl [HO]; · iexact HO
  iapply (Transfers.MayWaits.elim (SemLoc.dma gSem)) $$ Hmw

/-- The last stream's wait: every row's delivery is back, the cell at zero. -/
theorem wp_streamWaitAll {α : Type} {Q : α → sProp 𝕄} {kont : PUnit → Prog (TpuEff nD τ sig (Elt F) Λ₀ (.scVector (cV L) (jV L))) α} (o : ℕ)
    (h : ∀ a, (![o, 0] : Fin 2 → Nat) a + S128x128.size a ≤ S512x128.size a) {D : Fin 512 → sProp 𝕄} (u : ℕ) (hu : u + 128 * rowUnits = rowUnits * 512)
    {O : CellTallies nD τ sig (HIx 1)} {W : Waits sig (HIx 1)} :
    iprop((Transfers.MayWaits (thrL d L) (default : HIx 1) O : sProp 𝕄) ∗ Batch countersEmb (thrL d L) (.dma gSem) (default : HIx 1) rowUnits D 512 u ∗ owes (thrL d L) O W)
      ⊢ iprop((iprop(bigSep Finset.univ D ∗ semVal (thrL d L, .dma gSem) 0 ∗ owes (thrL d L) O (insert (SemLoc.dma gSem, default) W))
          -∗ wp frame (wpE (defs₀ (F := F)) 𝒱₀ (thrL d L) none) Set.univ (kont ⟨⟩) Q)
        -∗ wp frame (wpE (defs₀ (F := F)) 𝒱₀ (thrL d L) none) Set.univ (streamWait L tab o h >>= kont) Q) := by
  iintro ⟨#Hmw, Hb, HO⟩
  iapply (wp_waitBatchAllO countersEmb 𝒱₀ (thrL d L) none (default : HIx 1) (chunkCredit o h) rowUnits_pos hu)
  isplitl [Hb]; · iexact Hb
  isplitl [HO]; · iexact HO
  iapply (Transfers.MayWaits.elim (SemLoc.dma gSem)) $$ Hmw

set_option maxHeartbeats 4000000 in
/-- One round: its indices in range, the tile ends with its part of the output at the rows its indices name, everything
    else as it was, and has waited for nothing but its own transfers. -/
theorem wp_round (hin : ∀ x, ((iPart L idx).view.read (Elt F) fi x).toNat < 1000000) (O : CellTallies nD τ sig (HIx 1)) (W : Waits sig (HIx 1)) :
    iprop((Transfers.MayWaits (thrL d L) (default : HIx 1) O : sProp 𝕄)
        ∗ ((iPart L idx).view.loc (thrL d L) ↦[(iPart L idx).view.set]{fullShare} fi)
        ∗ (tab.view.loc (thrL d L) ↦[tab.view.set]{q} ft)
        ∗ ((oPart L out).view.loc (thrL d L) ↦[(oPart L out).view.set]{fullShare} fo)
        ∗ (∃ f, iScr.view.loc (thrL d L) ↦{fullShare} f) ∗ (∃ f, rScr.view.loc (thrL d L) ↦{fullShare} f)
        ∗ semVal (thrL d L, .dma sA) 0 ∗ semVal (thrL d L, .dma gSem) 0 ∗ semVal (thrL d L, .dma sB) 0 ∗ owes (thrL d L) O W)
      ⊢ wp frame (wpE (defs₀ (F := F)) 𝒱₀ (thrL d L) none) Set.univ (round L tab idx out sA sB)
          fun _ => iprop(((iPart L idx).view.loc (thrL d L) ↦[(iPart L idx).view.set]{fullShare} fi)
            ∗ (tab.view.loc (thrL d L) ↦[tab.view.set]{q} ft)
            ∗ ((oPart L out).view.loc (thrL d L) ↦[(oPart L out).view.set]{fullShare} left d L tab idx out ft fi fo)
            ∗ (∃ f, iScr.view.loc (thrL d L) ↦{fullShare} f) ∗ (∃ f, rScr.view.loc (thrL d L) ↦{fullShare} f)
            ∗ semVal (thrL d L, .dma sA) 0 ∗ semVal (thrL d L, .dma gSem) 0 ∗ semVal (thrL d L, .dma sB) 0
            ∗ ∃ W', ⌜∀ p ∈ W', p ∈ W ∨ p.2 = none⌝ ∗ owes (thrL d L) O W') := by
  unfold round
  have hset : iScr.view.set = Finset.univ := View.set_whole _
  have hrset : rScr.view.set = Finset.univ := View.set_whole _
  iintro ⟨#Hmw, Hi, Ht, Ho, ⟨%fs, Hs⟩, ⟨%fr, Hr⟩, HsA, HsG, HsB, HO⟩
  sl_exec
  -- the two scratch buffers and the table's share as 512 rows
  let fl : Buf (Elt F) (iScr.view.loc (thrL d L)) := View.write (Elt F) iScr.view fs (wp_round.sl.dma0 d L idx fi) Finset.univ
  have hfl : iScr.view.read (Elt F) fl = (iPart L idx).view.read (Elt F) fi := View.read_write_univ _ _
  let g : Buf (Elt F) (rScr.view.loc (thrL d L)) := rScr.view.write (Elt F) fr (fetched (cV L) (jV L) d tab ft (iScr.view.read (Elt F) fl)) Finset.univ
  have hin' : ∀ (o oi : ℕ) (h : ∀ a, (![o, 0] : Fin 2 → Nat) a + S128x128.size a ≤ S512x128.size a) (hi : ∀ a, (![oi, 0] : Fin 2 → Nat) a + S1x128.size a ≤ S4x128.size a),
      o = 128 * oi → ∀ x, ((iChunk oi hi).view.read (Elt F) fl x).toNat < S1000000x128.size (gathers_S1000000x128_S128x128).axis := fun o oi h hi ho x => by
    rw [read_iChunk (cV L) (jV L) d fl o oi h hi ho x, hfl]; exact hin _
  imod (batch_alloc' countersEmb (thrL d L) (default : HIx 1) rowUnits (held (cV L) (jV L) d tab q ft fl g) (sm := .dma gSem) (E := Set.univ)) $$ HsG with Hb
  ihave Hrows := (Entails.of_eq (show iprop((rScr.view.loc (thrL d L) ↦{fullShare} fr) ∗ (iScr.view.loc (thrL d L) ↦{fullShare} fl)
      ∗ (tab.view.loc (thrL d L) ↦[tab.view.set]{q} ft)) = (_ : sProp 𝕄) from
    ((held_all (cV L) (jV L) d tab q ft fl fr).trans (by rw [hset, hrset])).symm.trans (bigSep_quarters _))) $$ [Hr Hs Ht]
  · isplitl [Hr]; · iexact Hr
    isplitl [Hs]; · iexact Hs
    iexact Ht
  icases Hrows with ⟨H0, H1, H2, H3, -⟩
  rw [← wp_bind]
  iapply (wp_stream d L tab q ft 0 0 inb_S512x128_S128x128_0_0 inb_S4x128_S1x128_0_0 rfl fl fr fr (hin' 0 0 inb_S512x128_S128x128_0_0 inb_S4x128_S1x128_0_0 rfl)) $$ [H0 Hb]
  · isplitl [H0] <;> iassumption
  iintro Hb
  iapply (wp_stream d L tab q ft 128 1 inb_S512x128_S128x128_128_0 inb_S4x128_S1x128_1_0 rfl fl fr fr (hin' 128 1 inb_S512x128_S128x128_128_0 inb_S4x128_S1x128_1_0 rfl)) $$ [H1 Hb]
  · isplitl [H1] <;> iassumption
  iintro Hb
  iapply (wp_stream d L tab q ft 256 2 inb_S512x128_S128x128_256_0 inb_S4x128_S1x128_2_0 rfl fl fr fr (hin' 256 2 inb_S512x128_S128x128_256_0 inb_S4x128_S1x128_2_0 rfl)) $$ [H2 Hb]
  · isplitl [H2] <;> iassumption
  iintro Hb
  iapply (wp_stream d L tab q ft 384 3 inb_S512x128_S128x128_384_0 inb_S4x128_S1x128_3_0 rfl fl fr fr (hin' 384 3 inb_S512x128_S128x128_384_0 inb_S4x128_S1x128_3_0 rfl)) $$ [H3 Hb]
  · isplitl [H3] <;> iassumption
  iintro Hb
  -- the waits: three streams' worth of units, then the last, with which every row is back
  iapply (wp_streamWait d L tab 0 inb_S512x128_S128x128_0_0 0 (by omega)) $$ [Hb HO]
  · isplitr; · iexact Hmw
    isplitl [Hb] <;> iassumption
  iintro ⟨Hb, HO⟩
  iapply (wp_streamWait d L tab 128 inb_S512x128_S128x128_128_0 (0 + 128 * rowUnits) (by omega)) $$ [Hb HO]
  · isplitr; · iexact Hmw
    isplitl [Hb] <;> iassumption
  iintro ⟨Hb, HO⟩
  iapply (wp_streamWait d L tab 256 inb_S512x128_S128x128_256_0 (0 + 128 * rowUnits + 128 * rowUnits) (by omega)) $$ [Hb HO]
  · isplitr; · iexact Hmw
    isplitl [Hb] <;> iassumption
  iintro ⟨Hb, HO⟩
  iapply (wp_streamWaitAll d L tab 384 inb_S512x128_S128x128_384_0 (0 + 128 * rowUnits + 128 * rowUnits + 128 * rowUnits) (by omega)) $$ [Hb HO]
  · isplitr; · iexact Hmw
    isplitl [Hb] <;> iassumption
  iintro ⟨HD, HsG, HO⟩
  ihave HD := (Entails.of_eq ((held_all (cV L) (jV L) d tab q ft fl g).trans (by rw [hset, hrset]))) $$ HD
  icases HD with ⟨Hr, Hs, Ht⟩
  have hleft : (oPart L out).view.writes (Elt F) fo [⟨Rect.whole S512x128, rScr.view.read (Elt F) g⟩] = left d L tab idx out ft fi fo := by
    rw [← View.write_univ_eq_writes_whole]
    show View.write (Elt F) (oPart L out).view fo (rScr.view.read (Elt F) g) Finset.univ = _
    rw [show rScr.view.read (Elt F) g = fetched (cV L) (jV L) d tab ft (iScr.view.read (Elt F) fl) from View.read_write_univ _ _, hfl]
  sl_exec
  have hpay : wp_round.sl.dma0_1 d L tab idx ft fi fs fr = rScr.view.read (Elt F) g := rfl
  rw [hpay, hleft]
  sl_step
  isplitl [Hi]; · iexact Hi
  isplitl [Ht]; · iexact Ht
  isplitl [Ho]; · iexact Ho
  isplitl [Hs]; · iexists _; iexact Hs
  isplitl [Hr]; · iexists _; iexact Hr
  isplitl [HsA]; · iexact HsA
  isplitl [HsG]; · iexact HsG
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Round

end Cert.Proof.K

end
-- ==== Proof.Payload.lean ====
/-
  What the SparseCore call's handshakes carry, as values of the launch memory, and a tile's whole task: three rounds.
-/
module

public import proofs.«01_k».proof.Proof.Tile

@[expose] public section

noncomputable section

namespace Cert.Proof.K

open Cert.KernelIdeal Cert.KernelIdeal.Gen
open Cert.Proof.GatherBatch
open Idealize.ShloMosaic
open Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

/-! ## Values of the launch memory -/

/-- 16384 words as the 128 by 128 array the tiles read. -/
def words (a : S16384.Idx → Elt F .i32) : S128x128.Idx → Elt F .i32 :=
  fun y => a (ix1 (n := 16384) ⟨(y 0).val * 128 + (y 1).val, by have := (y 0).isLt; have := (y 1).isLt; simp at *; omega⟩)

/-- A table with its 32 columns repeated four times. -/
def wide (t : S1000000x32.Idx → Elt F .f32) : S1000000x128.Idx → Elt F .f32 :=
  fun y => t (ix2 (n0 := 1000000) (n1 := 32) (y 0) ⟨(y 1).val % 32, Nat.mod_lt _ (by decide)⟩)

variable (m : (ℓ : Loc nD τ sig) → Buf (Elt F) ℓ)

abbrev loc (d : Dev nD) (r : Ref sig .tc) : Loc nD τ sig := (SparseCore.T d).loc r

/-- The two wide tables, the three index arrays and the three gathered arrays of device `d`. -/
def tU (d : Dev nD) : Buf (Elt F) (loc d main_v0_0) := wide (m (loc d main_arg0))
def tI (d : Dev nD) : Buf (Elt F) (loc d main_v0_1) := wide (m (loc d main_arg1))
def iU (d : Dev nD) : Buf (Elt F) (loc d main_v1) := words (m (loc d main_arg2))
def iP (d : Dev nD) : Buf (Elt F) (loc d main_v2) := words (m (loc d main_arg3))
def iN (d : Dev nD) : Buf (Elt F) (loc d main_v3) := words (m (loc d main_arg4))
def gU (d : Dev nD) : Buf (Elt F) (loc d main_v4_0) := gathered (tU m d) (iU m d)
def gP (d : Dev nD) : Buf (Elt F) (loc d main_v4_1) := gathered (tI m d) (iP m d)
def gN (d : Dev nD) : Buf (Elt F) (loc d main_v4_2) := gathered (tI m d) (iN m d)

/-- What the proof asks of the launch memory: every word of the three lists is below the tables' height. -/
def PreOK : Prop := ∀ (d : Dev nD) (j : S16384.Idx), (m (loc d main_arg2) j).toNat < 1000000 ∧ (m (loc d main_arg3) j).toNat < 1000000 ∧ (m (loc d main_arg4) j).toNat < 1000000

/-! ## A tile's parts -/

/-- Tile `(L 0, L 1)`'s four rows of an index array, its 512 rows of an output, and its share of a table. -/
def iSet (L : grid1.Coords) : Finset S128x128.Idx := (Rect.unit (s := S128x128) (k1_off1 L) S4x128.size (k1_off1_inb L)).set
def oSet (L : grid1.Coords) : Finset S16384x128.Idx := (Rect.unit (s := S16384x128) (k1_off2 L) S512x128.size (k1_off2_inb L)).set
def tq (L : grid1.Coords) : PosShare TreeShare := pieceOf (pieceOf fullShare 2 (by decide) (L 0)) 16 (by decide) (L 1)

/-- What a tile receives: its rows of the three lists, its share of the two tables, its rows of the three outputs. -/
def tileIn (d : Dev nD) (L : grid1.Coords) : sProp 𝕄 :=
  iprop((loc d main_v1 ↦[iSet L]{fullShare} iU m d) ∗ (loc d main_v2 ↦[iSet L]{fullShare} iP m d) ∗ (loc d main_v3 ↦[iSet L]{fullShare} iN m d)
    ∗ (loc d main_v0_0 ↦{tq L} tU m d) ∗ (loc d main_v0_1 ↦{tq L} tI m d)
    ∗ (loc d main_v4_0 ↦[oSet L]{fullShare} m (loc d main_v4_0)) ∗ (loc d main_v4_1 ↦[oSet L]{fullShare} m (loc d main_v4_1))
    ∗ (loc d main_v4_2 ↦[oSet L]{fullShare} m (loc d main_v4_2)))

/-- What it brings back: the same, the outputs' rows gathered. -/
def tileOut (d : Dev nD) (L : grid1.Coords) : sProp 𝕄 :=
  iprop((loc d main_v1 ↦[iSet L]{fullShare} iU m d) ∗ (loc d main_v2 ↦[iSet L]{fullShare} iP m d) ∗ (loc d main_v3 ↦[iSet L]{fullShare} iN m d)
    ∗ (loc d main_v0_0 ↦{tq L} tU m d) ∗ (loc d main_v0_1 ↦{tq L} tI m d)
    ∗ (loc d main_v4_0 ↦[oSet L]{fullShare} gU m d) ∗ (loc d main_v4_1 ↦[oSet L]{fullShare} gP m d)
    ∗ (loc d main_v4_2 ↦[oSet L]{fullShare} gN m d))

instance tileIn_storable (d : Dev nD) (L : grid1.Coords) : Storable (upEmb : UEmb _ 𝕄) (tileIn m d L) := by unfold tileIn; infer_instance
instance tileOut_storable (d : Dev nD) (L : grid1.Coords) : Storable (upEmb : UEmb _ 𝕄) (tileOut m d L) := by unfold tileOut; infer_instance

section Sets

variable (L : grid1.Coords)

/-- The row, in an index array, of an entry of the tile's part. -/
theorem emb_iPart_0 (x : S4x128.Idx) : ((Rect.unit (s := S128x128) (k1_off1 L) S4x128.size (k1_off1_inb L)).emb x 0).val = 8 * (L 1).val + 4 * (L 0).val + (x 0).val := by
  show k1_off1 L 0 + 1 * (x 0).val = _
  rw [k1_off1_eq]; simp
/-- The column, in an index array, of an entry of the tile's part. -/
theorem emb_iPart_1 (x : S4x128.Idx) : ((Rect.unit (s := S128x128) (k1_off1 L) S4x128.size (k1_off1_inb L)).emb x 1).val = (x 1).val := by
  show k1_off1 L 1 + 1 * (x 1).val = _
  rw [k1_off1_eq]; simp
/-- The row, in an output, of an entry of the tile's part. -/
theorem emb_oPart_0 (x : S512x128.Idx) : ((Rect.unit (s := S16384x128) (k1_off2 L) S512x128.size (k1_off2_inb L)).emb x 0).val = 1024 * (L 1).val + 512 * (L 0).val + (x 0).val := by
  show k1_off2 L 0 + 1 * (x 0).val = _
  rw [k1_off2_eq]; simp
/-- The column, in an output, of an entry of the tile's part. -/
theorem emb_oPart_1 (x : S512x128.Idx) : ((Rect.unit (s := S16384x128) (k1_off2 L) S512x128.size (k1_off2_inb L)).emb x 1).val = (x 1).val := by
  show k1_off2 L 1 + 1 * (x 1).val = _
  rw [k1_off2_eq]; simp

/-- What a round leaves of an output is the gathered array, on the tile's rows. -/
theorem gathered_part (ft : S1000000x128.Idx → Elt F .f32) (fi : S128x128.Idx → Elt F .i32) (x : S512x128.Idx) :
    gathered ft fi ((Rect.unit (s := S16384x128) (k1_off2 L) S512x128.size (k1_off2_inb L)).emb x)
      = ft (ix2 (n0 := 1000000) (n1 := 128) (rowNo (fi ((Rect.unit (s := S128x128) (k1_off1 L) S4x128.size (k1_off1_inb L)).emb (entryAt (x 0))))) (x 1)) := by
  have e0 : listPos ((Rect.unit (s := S16384x128) (k1_off2 L) S512x128.size (k1_off2_inb L)).emb x 0)
      = (Rect.unit (s := S128x128) (k1_off1 L) S4x128.size (k1_off1_inb L)).emb (entryAt (x 0)) := by
    funext a
    match a with
    | 0 =>
      refine Fin.ext ?_
      refine Eq.trans ?_ (emb_iPart_0 L _).symm
      show ((Rect.unit (s := S16384x128) (k1_off2 L) S512x128.size (k1_off2_inb L)).emb x 0).val / 128 = 8 * (L 1).val + 4 * (L 0).val + (x 0).val / 128
      rw [emb_oPart_0]; omega
    | 1 =>
      refine Fin.ext ?_
      refine Eq.trans ?_ (emb_iPart_1 L _).symm
      show ((Rect.unit (s := S16384x128) (k1_off2 L) S512x128.size (k1_off2_inb L)).emb x 0).val % 128 = (x 0).val % 128
      rw [emb_oPart_0]; omega
  have e1 : (Rect.unit (s := S16384x128) (k1_off2 L) S512x128.size (k1_off2_inb L)).emb x 1 = x 1 := Fin.ext (emb_oPart_1 L x)
  unfold gathered
  rw [e0, e1]

end Sets

/-! ## The task -/

section Task

variable [FloatOps F]
variable (d : Dev nD) (L : grid1.Coords)

abbrev cell (s : DmaSem sig) : GSem nD τ sig := (thrL d L, .dma s)

/-- Different semaphores of a tile are different cells. -/
theorem cell_ne {s s' : DmaSem sig} (h : s ≠ s') : cell d L s ≠ cell d L s' := fun e => h (by
  have := congrArg Prod.snd e; simpa using this)

/-- A scoped semaphore is among the tile's own cells. -/
theorem mem_cell (s : DmaSem sig) (h : (SemLoc.dma s : SemLoc sig).isScoped .scVector = true) : cell d L s ∈ ownCells (thrL d L) :=
  mem_ownCells.mpr ⟨rfl, h⟩

/-- The subcore's other semaphores. -/
abbrev otherCells : Finset (GSem nD τ sig) :=
  (((((((ownCells (thrL d L)).erase (cell d L gSem)).erase (cell d L cc1_scoped0.sem)).erase (cell d L cc1_scoped1.sem)).erase (cell d L cc1_scoped2.sem)).erase
    (cell d L cc1_scoped3.sem)).erase (cell d L cc1_scoped4.sem)).erase (cell d L cc1_scoped5.sem)

/-- The seven semaphores the task uses are among the subcore's own. -/
theorem ownSems0_V :
    (ownSems0 (thrL d L) : sProp 𝕄)
      = iprop(semVal (cell d L gSem) 0 ∗ semVal (cell d L cc1_scoped0.sem) 0 ∗ semVal (cell d L cc1_scoped1.sem) 0 ∗ semVal (cell d L cc1_scoped2.sem) 0
          ∗ semVal (cell d L cc1_scoped3.sem) 0 ∗ semVal (cell d L cc1_scoped4.sem) 0 ∗ semVal (cell d L cc1_scoped5.sem) 0
          ∗ bigSep (otherCells d L) fun g => semVal g 0) := by
  unfold SparseCore.Cfg.ownSems0
  rw [SparseCore.bigSep_erase' (mem_cell d L gSem (by decide)),
    SparseCore.bigSep_erase' (i := cell d L cc1_scoped0.sem) (by
      simp only [Finset.mem_erase]; exact ⟨cell_ne d L (by decide), mem_cell d L _ (by decide)⟩),
    SparseCore.bigSep_erase' (i := cell d L cc1_scoped1.sem) (by
      simp only [Finset.mem_erase]; exact ⟨cell_ne d L (by decide), cell_ne d L (by decide), mem_cell d L _ (by decide)⟩),
    SparseCore.bigSep_erase' (i := cell d L cc1_scoped2.sem) (by
      simp only [Finset.mem_erase]; exact ⟨cell_ne d L (by decide), cell_ne d L (by decide), cell_ne d L (by decide), mem_cell d L _ (by decide)⟩),
    SparseCore.bigSep_erase' (i := cell d L cc1_scoped3.sem) (by
      simp only [Finset.mem_erase]; exact ⟨cell_ne d L (by decide), cell_ne d L (by decide), cell_ne d L (by decide), cell_ne d L (by decide), mem_cell d L _ (by decide)⟩),
    SparseCore.bigSep_erase' (i := cell d L cc1_scoped4.sem) (by
      simp only [Finset.mem_erase]; exact ⟨cell_ne d L (by decide), cell_ne d L (by decide), cell_ne d L (by decide), cell_ne d L (by decide), cell_ne d L (by decide), mem_cell d L _ (by decide)⟩),
    SparseCore.bigSep_erase' (i := cell d L cc1_scoped5.sem) (by
      simp only [Finset.mem_erase]; exact ⟨cell_ne d L (by decide), cell_ne d L (by decide), cell_ne d L (by decide), cell_ne d L (by decide), cell_ne d L (by decide), cell_ne d L (by decide), mem_cell d L _ (by decide)⟩)]

/-- The two scratch buffers are among the subcore's own: they are them, at some contents, and the rest. -/
theorem ownBufs_V :
    (ownBufs (thrL d L) : sProp 𝕄)
      = iprop((∃ f, iScr.view.loc (thrL d L) ↦{fullShare} f) ∗ (∃ f, rScr.view.loc (thrL d L) ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

end Task

end Cert.Proof.K

end
-- ==== Proof.Split.lean ====
/-
  The tile's whole task on the handshakes' payload, the obligation it discharges, and how the whole arrays split among the 32 tiles.
-/
module

public import proofs.«01_k».proof.Proof.Payload

@[expose] public section

noncomputable section

namespace Cert.Proof.K

open Cert.KernelIdeal Cert.KernelIdeal.Gen
open Cert.Proof.GatherBatch
open Idealize.ShloMosaic
open Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

section Views

variable (d : Dev nD) (L : grid1.Coords)

/-! The parts of the payload, as the task's memrefs address them. -/

/-- The tile's part of the users' list. -/
theorem pts_iU (f : Buf (Elt F) (loc d main_v1)) :
    ((iPart L idxU).view.loc (thrL d L) ↦[(iPart L idxU).view.set]{fullShare} f : sProp 𝕄) = loc d main_v1 ↦[iSet L]{fullShare} f :=
  congrArg (fun I => (loc d main_v1 ↦[I]{fullShare} f : sProp 𝕄)) (View.set_slice_whole (b := main_v1_scv) _)
/-- The tile's part of the positive items' list. -/
theorem pts_iP (f : Buf (Elt F) (loc d main_v2)) :
    ((iPart L idxP).view.loc (thrL d L) ↦[(iPart L idxP).view.set]{fullShare} f : sProp 𝕄) = loc d main_v2 ↦[iSet L]{fullShare} f :=
  congrArg (fun I => (loc d main_v2 ↦[I]{fullShare} f : sProp 𝕄)) (View.set_slice_whole (b := main_v2_scv) _)
/-- The tile's part of the negative items' list. -/
theorem pts_iN (f : Buf (Elt F) (loc d main_v3)) :
    ((iPart L idxN).view.loc (thrL d L) ↦[(iPart L idxN).view.set]{fullShare} f : sProp 𝕄) = loc d main_v3 ↦[iSet L]{fullShare} f :=
  congrArg (fun I => (loc d main_v3 ↦[I]{fullShare} f : sProp 𝕄)) (View.set_slice_whole (b := main_v3_scv) _)
/-- The tile's part of the users' output. -/
theorem pts_oU (f : Buf (Elt F) (loc d main_v4_0)) :
    ((oPart L outU).view.loc (thrL d L) ↦[(oPart L outU).view.set]{fullShare} f : sProp 𝕄) = loc d main_v4_0 ↦[oSet L]{fullShare} f :=
  congrArg (fun I => (loc d main_v4_0 ↦[I]{fullShare} f : sProp 𝕄)) (View.set_slice_whole (b := main_v4_0_scv) _)
/-- The tile's part of the positive items' output. -/
theorem pts_oP (f : Buf (Elt F) (loc d main_v4_1)) :
    ((oPart L outP).view.loc (thrL d L) ↦[(oPart L outP).view.set]{fullShare} f : sProp 𝕄) = loc d main_v4_1 ↦[oSet L]{fullShare} f :=
  congrArg (fun I => (loc d main_v4_1 ↦[I]{fullShare} f : sProp 𝕄)) (View.set_slice_whole (b := main_v4_1_scv) _)
/-- The tile's part of the negative items' output. -/
theorem pts_oN (f : Buf (Elt F) (loc d main_v4_2)) :
    ((oPart L outN).view.loc (thrL d L) ↦[(oPart L outN).view.set]{fullShare} f : sProp 𝕄) = loc d main_v4_2 ↦[oSet L]{fullShare} f :=
  congrArg (fun I => (loc d main_v4_2 ↦[I]{fullShare} f : sProp 𝕄)) (View.set_slice_whole (b := main_v4_2_scv) _)
/-- A share of the users' table. -/
theorem pts_tU (q : PosShare TreeShare) (f : Buf (Elt F) (loc d main_v0_0)) :
    (tabU.view.loc (thrL d L) ↦[tabU.view.set]{q} f : sProp 𝕄) = loc d main_v0_0 ↦{q} f :=
  congrArg (fun I => (loc d main_v0_0 ↦[I]{q} f : sProp 𝕄)) (View.set_whole main_v0_0_scv)
/-- A share of the items' table. -/
theorem pts_tI (q : PosShare TreeShare) (f : Buf (Elt F) (loc d main_v0_1)) :
    (tabI.view.loc (thrL d L) ↦[tabI.view.set]{q} f : sProp 𝕄) = loc d main_v0_1 ↦{q} f :=
  congrArg (fun I => (loc d main_v0_1 ↦[I]{q} f : sProp 𝕄)) (View.set_whole main_v0_1_scv)

/-! What a round leaves of an output, as the gathered array. -/

/-- A round leaves the gathered users' rows in the tile's part. -/
theorem left_U (ft : Buf (Elt F) (loc d main_v0_0)) (fi : Buf (Elt F) (loc d main_v1)) (fo : Buf (Elt F) (loc d main_v4_0)) :
    ((oPart L outU).view.loc (thrL d L) ↦[(oPart L outU).view.set]{fullShare} left d L tabU idxU outU ft fi fo : sProp 𝕄)
      = loc d main_v4_0 ↦[oSet L]{fullShare} (gathered ft fi : Buf (Elt F) (loc d main_v4_0)) := by
  refine Eq.trans ?_ (pts_oU d L (gathered ft fi : Buf (Elt F) (loc d main_v4_0)))
  refine pointsTo_congr ?_
  intro i hi
  obtain ⟨x, -, rfl⟩ := Finset.mem_map.mp hi
  have h1 := View.write_emb_of_mem (v := (oPart L outU).view) fo (fetched (cV L) (jV L) d tabU ft ((iPart L idxU).view.read (Elt F) fi)) (Finset.mem_univ x)
  have h2 := gathered_part L ft fi x
  have h3 : fetched (cV L) (jV L) d tabU ft ((iPart L idxU).view.read (Elt F) fi) x
      = ft (ix2 (n0 := 1000000) (n1 := 128) (rowNo (fi ((Rect.unit (s := S128x128) (k1_off1 L) S4x128.size (k1_off1_inb L)).emb (entryAt (x 0))))) (x 1)) := rfl
  exact h1.trans (h3.trans h2.symm)

/-- A round leaves the gathered positive items' rows in the tile's part. -/
theorem left_P (ft : Buf (Elt F) (loc d main_v0_1)) (fi : Buf (Elt F) (loc d main_v2)) (fo : Buf (Elt F) (loc d main_v4_1)) :
    ((oPart L outP).view.loc (thrL d L) ↦[(oPart L outP).view.set]{fullShare} left d L tabI idxP outP ft fi fo : sProp 𝕄)
      = loc d main_v4_1 ↦[oSet L]{fullShare} (gathered ft fi : Buf (Elt F) (loc d main_v4_1)) := by
  refine Eq.trans ?_ (pts_oP d L (gathered ft fi : Buf (Elt F) (loc d main_v4_1)))
  refine pointsTo_congr ?_
  intro i hi
  obtain ⟨x, -, rfl⟩ := Finset.mem_map.mp hi
  have h1 := View.write_emb_of_mem (v := (oPart L outP).view) fo (fetched (cV L) (jV L) d tabI ft ((iPart L idxP).view.read (Elt F) fi)) (Finset.mem_univ x)
  have h2 := gathered_part L ft fi x
  have h3 : fetched (cV L) (jV L) d tabI ft ((iPart L idxP).view.read (Elt F) fi) x
      = ft (ix2 (n0 := 1000000) (n1 := 128) (rowNo (fi ((Rect.unit (s := S128x128) (k1_off1 L) S4x128.size (k1_off1_inb L)).emb (entryAt (x 0))))) (x 1)) := rfl
  exact h1.trans (h3.trans h2.symm)

/-- A round leaves the gathered negative items' rows in the tile's part. -/
theorem left_N (ft : Buf (Elt F) (loc d main_v0_1)) (fi : Buf (Elt F) (loc d main_v3)) (fo : Buf (Elt F) (loc d main_v4_2)) :
    ((oPart L outN).view.loc (thrL d L) ↦[(oPart L outN).view.set]{fullShare} left d L tabI idxN outN ft fi fo : sProp 𝕄)
      = loc d main_v4_2 ↦[oSet L]{fullShare} (gathered ft fi : Buf (Elt F) (loc d main_v4_2)) := by
  refine Eq.trans ?_ (pts_oN d L (gathered ft fi : Buf (Elt F) (loc d main_v4_2)))
  refine pointsTo_congr ?_
  intro i hi
  obtain ⟨x, -, rfl⟩ := Finset.mem_map.mp hi
  have h1 := View.write_emb_of_mem (v := (oPart L outN).view) fo (fetched (cV L) (jV L) d tabI ft ((iPart L idxN).view.read (Elt F) fi)) (Finset.mem_univ x)
  have h2 := gathered_part L ft fi x
  have h3 : fetched (cV L) (jV L) d tabI ft ((iPart L idxN).view.read (Elt F) fi) x
      = ft (ix2 (n0 := 1000000) (n1 := 128) (rowNo (fi ((Rect.unit (s := S128x128) (k1_off1 L) S4x128.size (k1_off1_inb L)).emb (entryAt (x 0))))) (x 1)) := rfl
  exact h1.trans (h3.trans h2.symm)

end Views

section Task

variable [FloatOps F]
variable (d : Dev nD) (L : grid1.Coords)

/-- The task of tile `(L 0, L 1)`: users, positives and negatives, one round each. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tileIn m d L
        ∗ scopedBufs (thrL d L) ∗ scopedSems0 (thrL d L) ∗ owes (thrL d L) O W)
      ⊢ wp frame (wpE (defs₀ (F := F)) 𝒱₀ (thrL d L) none) Set.univ (task L)
          fun _ => iprop(tileOut m d L ∗ scopedBufs (thrL d L) ∗ scopedSems0 (thrL d L)
            ∗ ∃ W', ⌜∀ p ∈ W', p ∈ W ∨ p.2 = none⌝ ∗ owes (thrL d L) O W') := by
  rw [task_eq, (K (F := F)).scopedBufs_V hF d (cV L) (jV L), SparseCore.Cfg.scopedSems0_V (Val := Elt F) d (cV L) (jV L), ownSems0_V, ownBufs_V]
  unfold tileIn tileOut
  iintro ⟨#Hlv, -, ⟨HiU, HiP, HiN, HtU, HtI, HoU, HoP, HoN⟩, ⟨Hs, Hr, Hbufs⟩, ⟨HG, H0, H1, H2, H3, H4, H5, Hsems⟩, HO⟩
  ihave #Hmw := (show levAts (K (F := F)).L (K (F := F)).lev ⊢ Transfers.MayWaits (thrL d L) (default : HIx 1) O from
    (K (F := F)).mayWaits_none (thr := thrL d L) hO) $$ Hlv
  have ok : ∀ (idx : Memref sig .scVector .hbm S128x128 .i32) (fi : Buf (Elt F) (idx.view.loc (thrL d L))), (∀ i, (idx.view.read (Elt F) fi i).toNat < 1000000) →
      ∀ x, ((iPart L idx).view.read (Elt F) fi x).toNat < 1000000 := fun idx fi h x => h _
  -- users
  rw [wp_bind]
  iapply (wp_wand_r frame _ _)
  isplitl [HiU HtU HoU Hs Hr HG H0 H1 HO]
  · iapply (wp_round d L tabU idxU outU cc1_scoped0.sem cc1_scoped1.sem (tq L) (tU m d) (iU m d) (m (loc d main_v4_0))
      (ok idxU (iU m d) fun i => (hpre d _).1) O W)
    isplitr; · iexact Hmw
    isplitl [HiU]; · iapply (Entails.of_eq (pts_iU d L _).symm) $$ HiU
    isplitl [HtU]; · iapply (Entails.of_eq (pts_tU d L _ _).symm) $$ HtU
    isplitl [HoU]; · iapply (Entails.of_eq (pts_oU d L _).symm) $$ HoU
    isplitl [Hs]; · iexact Hs
    isplitl [Hr]; · iexact Hr
    isplitl [H0]; · iexact H0
    isplitl [HG]; · iexact HG
    isplitl [H1]; · iexact H1
    iexact HO
  iintro %_ ⟨HiU, HtU, HoU, Hs, Hr, H0, HG, H1, %W1, %hW1, HO⟩
  -- positives
  rw [wp_bind]
  iapply (wp_wand_r frame _ _)
  isplitl [HiP HtI HoP Hs Hr HG H2 H3 HO]
  · iapply (wp_round d L tabI idxP outP cc1_scoped2.sem cc1_scoped3.sem (tq L) (tI m d) (iP m d) (m (loc d main_v4_1))
      (ok idxP (iP m d) fun i => (hpre d _).2.1) O W1)
    isplitr; · iexact Hmw
    isplitl [HiP]; · iapply (Entails.of_eq (pts_iP d L _).symm) $$ HiP
    isplitl [HtI]; · iapply (Entails.of_eq (pts_tI d L _ _).symm) $$ HtI
    isplitl [HoP]; · iapply (Entails.of_eq (pts_oP d L _).symm) $$ HoP
    isplitl [Hs]; · iexact Hs
    isplitl [Hr]; · iexact Hr
    isplitl [H2]; · iexact H2
    isplitl [HG]; · iexact HG
    isplitl [H3]; · iexact H3
    iexact HO
  iintro %_ ⟨HiP, HtI, HoP, Hs, Hr, H2, HG, H3, %W2, %hW2, HO⟩
  -- negatives
  iapply (wp_wand_r frame _ _)
  isplitl [HiN HtI HoN Hs Hr HG H4 H5 HO]
  · iapply (wp_round d L tabI idxN outN cc1_scoped4.sem cc1_scoped5.sem (tq L) (tI m d) (iN m d) (m (loc d main_v4_2))
      (ok idxN (iN m d) fun i => (hpre d _).2.2) O W2)
    isplitr; · iexact Hmw
    isplitl [HiN]; · iapply (Entails.of_eq (pts_iN d L _).symm) $$ HiN
    isplitl [HtI]; · iexact HtI
    isplitl [HoN]; · iapply (Entails.of_eq (pts_oN d L _).symm) $$ HoN
    isplitl [Hs]; · iexact Hs
    isplitl [Hr]; · iexact Hr
    isplitl [H4]; · iexact H4
    isplitl [HG]; · iexact HG
    isplitl [H5]; · iexact H5
    iexact HO
  iintro %_ ⟨HiN, HtI, HoN, Hs, Hr, H4, HG, H5, %W3, %hW3, HO⟩
  isplitl [HiU HiP HiN HtU HtI HoU HoP HoN]
  · isplitl [HiU]; · iapply (Entails.of_eq (pts_iU d L _)) $$ HiU
    isplitl [HiP]; · iapply (Entails.of_eq (pts_iP d L _)) $$ HiP
    isplitl [HiN]; · iapply (Entails.of_eq (pts_iN d L _)) $$ HiN
    isplitl [HtU]; · iapply (Entails.of_eq (pts_tU d L _ _)) $$ HtU
    isplitl [HtI]; · iapply (Entails.of_eq (pts_tI d L _ _)) $$ HtI
    isplitl [HoU]; · iapply (Entails.of_eq (left_U d L _ _ _)) $$ HoU
    isplitl [HoP]; · iapply (Entails.of_eq (left_P d L _ _ _)) $$ HoP
    iapply (Entails.of_eq (left_N d L _ _ _)) $$ HoN
  isplitl [Hs Hr Hbufs]
  · isplitl [Hs]; · iexact Hs
    isplitl [Hr]; · iexact Hr
    iexact Hbufs
  isplitl [HG H0 H1 H2 H3 H4 H5 Hsems]
  · isplitl [HG]; · iexact HG
    isplitl [H0]; · iexact H0
    isplitl [H1]; · iexact H1
    isplitl [H2]; · iexact H2
    isplitl [H3]; · iexact H3
    isplitl [H4]; · iexact H4
    isplitl [H5]; · iexact H5
    iexact Hsems
  iexists W3; isplitr
  · ipureintro; intro p hp
    rcases hW3 p hp with hp | hp; swap; · exact .inr hp
    rcases hW2 p hp with hp | hp; swap; · exact .inr hp
    exact hW1 p hp
  · iexact HO

end Task

end Cert.Proof.K

end
-- ==== Proof.Oblig.lean ====
/-
  The launch's payloads, the tiles' obligation, and the whole arrays as the tiles' parts.
-/
module

public import proofs.«01_k».proof.Proof.Split

@[expose] public section

noncomputable section

namespace Cert.Proof.K

open Cert.KernelIdeal Cert.KernelIdeal.Gen
open Cert.Proof.GatherBatch
open Idealize.ShloMosaic
open Idealize.ShloMosaic.Transfers
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)

/-- The grid point of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

/-- The payloads: a SparseCore receives and returns what its sixteen tiles do. -/
def P : (K (F := F)).Pay (nD := nD) (Val := Elt F) (Name := ℕ) (U := UU) where
  st := fun q d c => match q with | 0 => bigSep Finset.univ fun i : Fin 16 => tileIn m d (coordsV (Fin.cast nCore_zero c) i)
  dn := fun q d c => match q with | 0 => bigSep Finset.univ fun i : Fin 16 => tileOut m d (coordsV (Fin.cast nCore_zero c) i)
  go := fun q d c i => match q with | 0 => tileIn m d (coordsV (Fin.cast nCore_zero c) (Fin.cast nSub_zero i))
  td := fun q d c i => match q with | 0 => tileOut m d (coordsV (Fin.cast nCore_zero c) (Fin.cast nSub_zero i))
  x := fun _ _ => iprop(emp)

instance P_storable : (P (F := F) m).IsStorable where
  st q d c := match q with
    | 0 => (letI h (i : Fin 16) := tileIn_storable m d (coordsV (Fin.cast nCore_zero c) i); Storable.bigSep upEmb Finset.univ _ : BI.Storable (upEmb : UEmb _ 𝕄) (bigSep Finset.univ fun i : Fin 16 => tileIn m d (coordsV (Fin.cast nCore_zero c) i)))
  dn q d c := match q with
    | 0 => (letI h (i : Fin 16) := tileOut_storable m d (coordsV (Fin.cast nCore_zero c) i); Storable.bigSep upEmb Finset.univ _ : BI.Storable (upEmb : UEmb _ 𝕄) (bigSep Finset.univ fun i : Fin 16 => tileOut m d (coordsV (Fin.cast nCore_zero c) i)))
  go q d c i := match q with
    | 0 => (inferInstance : BI.Storable (upEmb : UEmb _ 𝕄) (tileIn m d (coordsV (Fin.cast nCore_zero c) (Fin.cast nSub_zero i))))
  td q d c i := match q with
    | 0 => (inferInstance : BI.Storable (upEmb : UEmb _ 𝕄) (tileOut m d (coordsV (Fin.cast nCore_zero c) (Fin.cast nSub_zero i))))

/-! ## The obligation -/

section Oblig

variable [FloatOps F]

/-- The call's label at a tile is the task at the tile's coordinates. -/
theorem defs₀_vector (c : Fin τ.nSC) (s : Fin τ.nSub) :
    defs₀ (F := F) (.scVector c s) 1 () = SparseCore.onTile hcore1 hsub1 (fun c s => task (coordsV c s)) ⟨⟩ c s := rfl

omit [FloatOps F] in
/-- A tile's post with the waits it has recorded, in the weaker form that the call asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile meets its obligation: its task runs from what it is given to what it hands back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-- A SparseCore's share is its tiles' shares, before and after. -/
theorem vecSplit : (K (F := F)).VecSplit' (P m) 0 := by
  intro d c
  show (bigSep Finset.univ fun i : Fin 16 => tileIn m d (coordsV (Fin.cast nCore_zero c) i)) ⊢ |={Set.univ}=> iprop(
      (bigSep Finset.univ fun i : Fin 16 => tileIn m d (coordsV (Fin.cast nCore_zero c) i))
      ∗ ((bigSep Finset.univ fun i : Fin 16 => tileOut m d (coordsV (Fin.cast nCore_zero c) i))
          -∗ bigSep Finset.univ fun i : Fin 16 => tileOut m d (coordsV (Fin.cast nCore_zero c) i)))
  iintro H; imodintro
  isplitl [H]; · iexact H
  iintro H; iexact H

end Oblig

/-! ## The whole arrays as the tiles' parts -/

/-- All tiles. -/
def LL (p : Fin 2 × Fin 16) : grid1.Coords := coordsV p.1 p.2

/-- Tile `L`'s four rows of an index array. -/
theorem mem_iSet (L : grid1.Coords) (y : S128x128.Idx) : y ∈ iSet L ↔ 8 * (L 1).val + 4 * (L 0).val ≤ (y 0).val ∧ (y 0).val < 8 * (L 1).val + 4 * (L 0).val + 4 := by
  have h0 : k1_off1 L 0 = 8 * (L 1).val + 4 * (L 0).val := by rw [k1_off1_eq]; rfl
  have h1 : k1_off1 L 1 = 0 := by rw [k1_off1_eq]; rfl
  refine Rect.mem_set_unit.trans ⟨fun h => ?_, fun h a => ?_⟩
  · have h := h 0
    change k1_off1 L 0 ≤ (y 0).val ∧ (y 0).val < k1_off1 L 0 + 4 at h
    omega
  · match a with
    | 0 => show k1_off1 L 0 ≤ (y 0).val ∧ (y 0).val < k1_off1 L 0 + 4; omega
    | 1 =>
      have := (y 1).isLt
      change (y 1).val < 128 at this
      show k1_off1 L 1 ≤ (y 1).val ∧ (y 1).val < k1_off1 L 1 + 128; omega

/-- Tile `L`'s 512 rows of an output. -/
theorem mem_oSet (L : grid1.Coords) (y : S16384x128.Idx) : y ∈ oSet L ↔ 1024 * (L 1).val + 512 * (L 0).val ≤ (y 0).val ∧ (y 0).val < 1024 * (L 1).val + 512 * (L 0).val + 512 := by
  have h0 : k1_off2 L 0 = 1024 * (L 1).val + 512 * (L 0).val := by rw [k1_off2_eq]; rfl
  have h1 : k1_off2 L 1 = 0 := by rw [k1_off2_eq]; rfl
  refine Rect.mem_set_unit.trans ⟨fun h => ?_, fun h a => ?_⟩
  · have h := h 0
    change k1_off2 L 0 ≤ (y 0).val ∧ (y 0).val < k1_off2 L 0 + 512 at h
    omega
  · match a with
    | 0 => show k1_off2 L 0 ≤ (y 0).val ∧ (y 0).val < k1_off2 L 0 + 512; omega
    | 1 =>
      have := (y 1).isLt
      change (y 1).val < 128 at this
      show k1_off2 L 1 ≤ (y 1).val ∧ (y 1).val < k1_off2 L 1 + 128; omega

/-- Different pairs differ in one of their numbers. -/
theorem LL_ne {p p' : Fin 2 × Fin 16} (h : p ≠ p') : p.1.val ≠ p'.1.val ∨ p.2.val ≠ p'.2.val := by
  by_contra hc; push Not at hc; exact h (Prod.ext (Fin.ext hc.1) (Fin.ext hc.2))

/-- Different tiles have different rows of an index array. -/
theorem iSet_disjoint : ∀ p ∈ (Finset.univ : Finset (Fin 2 × Fin 16)), ∀ p' ∈ (Finset.univ : Finset (Fin 2 × Fin 16)), p ≠ p' → Disjoint (iSet (LL p)) (iSet (LL p')) := by
  intro p _ p' _ h
  refine Finset.disjoint_left.mpr fun y hy hy' => ?_
  have a := (mem_iSet _ _).mp hy; have b := (mem_iSet _ _).mp hy'
  change 8 * p.2.val + 4 * p.1.val ≤ _ ∧ _ < 8 * p.2.val + 4 * p.1.val + 4 at a
  change 8 * p'.2.val + 4 * p'.1.val ≤ _ ∧ _ < 8 * p'.2.val + 4 * p'.1.val + 4 at b
  have := LL_ne h; have := p.1.isLt; have := p'.1.isLt; omega

/-- Different tiles have different rows of an output. -/
theorem oSet_disjoint : ∀ p ∈ (Finset.univ : Finset (Fin 2 × Fin 16)), ∀ p' ∈ (Finset.univ : Finset (Fin 2 × Fin 16)), p ≠ p' → Disjoint (oSet (LL p)) (oSet (LL p')) := by
  intro p _ p' _ h
  refine Finset.disjoint_left.mpr fun y hy hy' => ?_
  have a := (mem_oSet _ _).mp hy; have b := (mem_oSet _ _).mp hy'
  change 1024 * p.2.val + 512 * p.1.val ≤ _ ∧ _ < 1024 * p.2.val + 512 * p.1.val + 512 at a
  change 1024 * p'.2.val + 512 * p'.1.val ≤ _ ∧ _ < 1024 * p'.2.val + 512 * p'.1.val + 512 at b
  have := LL_ne h; have := p.1.isLt; have := p'.1.isLt; omega

/-- The tiles' rows are all rows of an index array. -/
theorem iSet_cover : (Finset.univ : Finset (Fin 2 × Fin 16)).biUnion (fun p => iSet (LL p)) = Finset.univ := by
  refine Finset.eq_univ_iff_forall.mpr fun y => Finset.mem_biUnion.mpr ?_
  have hy : (y 0).val < 128 := (y 0).isLt
  refine ⟨(⟨(y 0).val / 4 % 2, by omega⟩, ⟨(y 0).val / 8, by omega⟩), Finset.mem_univ _, (mem_iSet _ _).mpr ?_⟩
  show 8 * ((y 0).val / 8) + 4 * ((y 0).val / 4 % 2) ≤ _ ∧ _ < 8 * ((y 0).val / 8) + 4 * ((y 0).val / 4 % 2) + 4
  omega

/-- The tiles' rows are all rows of an output. -/
theorem oSet_cover : (Finset.univ : Finset (Fin 2 × Fin 16)).biUnion (fun p => oSet (LL p)) = Finset.univ := by
  refine Finset.eq_univ_iff_forall.mpr fun y => Finset.mem_biUnion.mpr ?_
  have hy : (y 0).val < 16384 := (y 0).isLt
  refine ⟨(⟨(y 0).val / 512 % 2, by omega⟩, ⟨(y 0).val / 1024, by omega⟩), Finset.mem_univ _, (mem_oSet _ _).mpr ?_⟩
  show 1024 * ((y 0).val / 1024) + 512 * ((y 0).val / 512 % 2) ≤ _ ∧ _ < 1024 * ((y 0).val / 1024) + 512 * ((y 0).val / 512 % 2) + 512
  omega

/-- An index array as its parts; the same for each of the three. -/
theorem parts_i (ℓ : Loc nD τ sig) (I : Fin 2 × Fin 16 → Finset (Idx ℓ)) (hd : ∀ p ∈ (Finset.univ : Finset (Fin 2 × Fin 16)), ∀ p' ∈ (Finset.univ : Finset (Fin 2 × Fin 16)), p ≠ p' → Disjoint (I p) (I p'))
    (hc : (Finset.univ : Finset (Fin 2 × Fin 16)).biUnion I = Finset.univ) (f : Buf (Elt F) ℓ) :
    (ℓ ↦{fullShare} f : sProp 𝕄) = bigSep Finset.univ fun p : Fin 2 × Fin 16 => ℓ ↦[I p]{fullShare} f := by
  rw [← pointsTo_biUnion Finset.univ I hd, hc]

/-- A table as the tiles' shares of it. -/
theorem parts_t (ℓ : Loc nD τ sig) (f : Buf (Elt F) ℓ) :
    (ℓ ↦{fullShare} f : sProp 𝕄) = bigSep Finset.univ fun p : Fin 2 × Fin 16 => ℓ ↦{tq (LL p)} f := by
  rw [← Finset.univ_product_univ, SparseCore.bigSep_product, pointsTo_piecesOf Finset.univ f (o := 2) (by decide) fullShare]
  exact bigSep_congr fun c _ => pointsTo_piecesOf Finset.univ f (o := 16) (by decide) _

/-- The arrays the call takes, at the values it takes them at, and at the values it leaves. -/
def callIn (d : Dev nD) : sProp 𝕄 :=
  iprop((loc d main_v1 ↦{fullShare} iU m d) ∗ (loc d main_v2 ↦{fullShare} iP m d) ∗ (loc d main_v3 ↦{fullShare} iN m d)
    ∗ (loc d main_v0_0 ↦{fullShare} tU m d) ∗ (loc d main_v0_1 ↦{fullShare} tI m d)
    ∗ (loc d main_v4_0 ↦{fullShare} m (loc d main_v4_0)) ∗ (loc d main_v4_1 ↦{fullShare} m (loc d main_v4_1))
    ∗ (loc d main_v4_2 ↦{fullShare} m (loc d main_v4_2)))
def callOut (d : Dev nD) : sProp 𝕄 :=
  iprop((loc d main_v1 ↦{fullShare} iU m d) ∗ (loc d main_v2 ↦{fullShare} iP m d) ∗ (loc d main_v3 ↦{fullShare} iN m d)
    ∗ (loc d main_v0_0 ↦{fullShare} tU m d) ∗ (loc d main_v0_1 ↦{fullShare} tI m d)
    ∗ (loc d main_v4_0 ↦{fullShare} gU m d) ∗ (loc d main_v4_1 ↦{fullShare} gP m d) ∗ (loc d main_v4_2 ↦{fullShare} gN m d))

/-- What the SparseCores are given at the call is what the TensorCore hands in. -/
theorem st0_eq (d : Dev nD) : (bigSep Finset.univ fun c : Fin ((K (F := F)).nCore 0) => (P m).st 0 d c) = callIn m d := by
  refine Eq.trans (b := bigSep Finset.univ fun p : Fin 2 × Fin 16 => tileIn m d (LL p)) ?_ ?_
  · rw [← Finset.univ_product_univ, SparseCore.bigSep_product]; rfl
  · unfold tileIn callIn
    simp only [bigSep_sep']
    rw [parts_i (loc d main_v1) (fun p => iSet (LL p)) iSet_disjoint iSet_cover, parts_i (loc d main_v2) (fun p => iSet (LL p)) iSet_disjoint iSet_cover,
      parts_i (loc d main_v3) (fun p => iSet (LL p)) iSet_disjoint iSet_cover, parts_t (loc d main_v0_0), parts_t (loc d main_v0_1),
      parts_i (loc d main_v4_0) (fun p => oSet (LL p)) oSet_disjoint oSet_cover, parts_i (loc d main_v4_1) (fun p => oSet (LL p)) oSet_disjoint oSet_cover,
      parts_i (loc d main_v4_2) (fun p => oSet (LL p)) oSet_disjoint oSet_cover]

/-- What the SparseCores hand back is what the TensorCore gets. -/
theorem dn0_eq (d : Dev nD) : (bigSep Finset.univ fun c : Fin ((K (F := F)).nCore 0) => (P m).dn 0 d c) = callOut m d := by
  refine Eq.trans (b := bigSep Finset.univ fun p : Fin 2 × Fin 16 => tileOut m d (LL p)) ?_ ?_
  · rw [← Finset.univ_product_univ, SparseCore.bigSep_product]; rfl
  · unfold tileOut callOut
    simp only [bigSep_sep']
    rw [parts_i (loc d main_v1) (fun p => iSet (LL p)) iSet_disjoint iSet_cover, parts_i (loc d main_v2) (fun p => iSet (LL p)) iSet_disjoint iSet_cover,
      parts_i (loc d main_v3) (fun p => iSet (LL p)) iSet_disjoint iSet_cover, parts_t (loc d main_v0_0), parts_t (loc d main_v0_1),
      parts_i (loc d main_v4_0) (fun p => oSet (LL p)) oSet_disjoint oSet_cover, parts_i (loc d main_v4_1) (fun p => oSet (LL p)) oSet_disjoint oSet_cover,
      parts_i (loc d main_v4_2) (fun p => oSet (LL p)) oSet_disjoint oSet_cover]

end Cert.Proof.K

end
-- ==== Proof.RegionKit.lean ====
/-
  A TensorCore region run from @main while the SparseCore call's signals are still owed.
-/
module

public import proofs.«01_k».proof.Proof.Oblig
public import Idealize.ShloMosaic.Lib.Pipeline.ValueKit

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref owned reading `X` is its buffer held at contents that read `X`. -/
theorem owns_of_whole (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Neither pipeline has prefetched tables. -/
abbrev adm : (p : Fin 2) → (pcfgs (F := F) p).Adm := fun p => (cfgs p).toPCfg_adm

/-- What the TensorCore owes before SparseCore call `n`, its recorded waits below that call's levels. -/
def owesI (c : Dev nD) (n : ℕ) : sProp 𝕄 :=
  iprop(∃ W, ⌜(K (F := F)).WBelow (SparseCore.T c) W (8 * (SparseCore.Cfg.Blocks.fst (Q := 1) (N := 1) n))⌝ ∗ owes (SparseCore.T c) ((K (F := F)).Otc c n) W)

/-- The waits recorded so far, as a bound for a region's proof data. -/
def recd (c : Dev nD) (n : ℕ) : Set (SemLoc sig × HIx 1) := {p | (K (F := F)).lev (SparseCore.T c, p.1) p.2 ≤ 8 * (SparseCore.Cfg.Blocks.fst (Q := 1) (N := 1) n)}

/-- The TensorCore owes nothing at the transfers' index. -/
theorem Otc_none (c : Dev nD) (n : ℕ) (g : GSem nD τ sig) : (K (F := F)).Otc c n g (none : HIx 1) = 0 := by
  by_contra h
  have := SparseCore.Cfg.lev_of_Otc_pos (K := K (F := F)) (Nat.pos_of_ne_zero h)
  rw [SparseCore.Cfg.lev_none] at this
  omega

/-- What the TensorCore owes, in the form that a region takes. -/
theorem owes_in (c : Dev nD) (n : ℕ) (B : Set (SemLoc sig × HIx 1)) :
    (owesI (F := F) c n : sProp 𝕄) ⊢ Pipeline.owesWithin c ((K (F := F)).Otc c n) (recd (F := F) c n ∪ B) := by
  unfold owesI Pipeline.owesWithin
  iintro ⟨%W, %h, H⟩
  iexists W
  isplitr
  · ipureintro; exact fun p hp => Or.inl (h p hp)
  iexact H

/-- What a region gives back, as what the TensorCore owes. -/
theorem owes_out (c : Dev nD) (n : ℕ) (B : Set (SemLoc sig × HIx 1)) (hB : ∀ p ∈ B, p.2 = none) :
    (Pipeline.owesWithin c ((K (F := F)).Otc c n) (recd (F := F) c n ∪ B) : sProp 𝕄) ⊢ owesI (F := F) c n := by
  unfold owesI Pipeline.owesWithin
  iintro ⟨%W, %h, H⟩
  iexists W
  isplitr
  · ipureintro
    intro p hp
    rcases h hp with h' | h'
    · exact h'
    · rw [hB p h', SparseCore.Cfg.lev_none]; exact Nat.zero_le _
  iexact H

/-- A region of pipeline `p` run from @main, before or after the SparseCore call. -/
theorem wp_region {pdats : (p : Fin 2) → (c : Dev nD) → Dat τ (Elt F) (HIx 1) ℕ UU ℕ (Pipeline.pin (pcfgs (F := F)) adm p) c} [∀ e, Nonempty (Elt F e)] {p : Fin 2}
    (R : Pipeline.RegionSeg (pcfgs (F := F)) adm pdats (none : HIx 1) defs₀ 𝒱₀ (K (F := F)).L (K (F := F)).lev p) (c : Dev nD) :
    iprop(boundary (c : Thread nD τ) ∗ R.pre c ∗ levAts (K (F := F)).L (K (F := F)).lev ∗ Pipeline.cellsGhost (Pipeline.pin (pcfgs (F := F)) adm) EP p c
        ∗ Pipeline.toksInit (Pipeline.pin (pcfgs (F := F)) adm) EP p c)
      ⊢ wp frame (wpE ((K (F := F)).defs (D (F := F))) 𝒱 (SparseCore.T c) none) Set.univ (Prog.lift (.customCall (SparseCore.inner (Pipeline.entry p)) ()))
          (fun _ => iprop(boundary (c : Thread nD τ) ∗ R.post c)) := by
  refine BIBase.Entails.trans ?_ ((K (F := F)).wp_liftProg (D (F := F)) 𝒱 (SparseCore.T c) Set.univ none (.op (.customCall (Pipeline.entry p) ()) .ret) _)
  refine BIBase.Entails.trans ?_ (Pipeline.RegionSeg.wp (pcfgs (F := F)) adm pdats (none : HIx 1) cellOf_inj EP defs₀ 𝒱₀ (K (F := F)).L (K (F := F)).lev R c none (fun _ h => nomatch h) .ret _)
  iintro ⟨Hb, Hp, Hl, Hc, Ht⟩
  isplitr
  · iintro ⟨Hb, Hp⟩
    rw [wp_ret]
    imodintro
    isplitl [Hb] <;> iassumption
  isplitl [Hb]; · iexact Hb
  isplitl [Hp]; · iexact Hp
  isplitl [Hl]; · iexact Hl
  isplitl [Hc] <;> iassumption

end Cert.Proof.K

end
-- ==== Proof.Region0.lean ====
/-
  The first TensorCore region: the two tables repeated four times across their rows.
-/
module

public import proofs.«01_k».proof.Proof.RegionKit
public import Idealize.ShloMosaic.Lib.VecWindow

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-- The body of the first region, from its four staging buffers: each table's block repeated four times. -/
theorem wp_cc0 (c : Dev nD) (i : grid0.Coords) (M1 : Memref sig .tc .vmem S4000x32 .f32) (h1 : M1.IsWhole) (M2 : Memref sig .tc .vmem S4000x32 .f32) (h2 : M2.IsWhole)
    (M3 : Memref sig .tc .vmem S4000x128 .f32) (h3 : M3.IsWhole) (M4 : Memref sig .tc .vmem S4000x128 .f32) (h4 : M4.IsWhole)
    (X1 X2 : S4000x32.Idx → Elt F .f32) (X3 X4 : S4000x128.Idx → Elt F .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4
        ∗ (iprop(owns (c : Thread nD τ) M1 fullShare X1 ∗ owns (c : Thread nD τ) M2 fullShare X2 ∗ owns (c : Thread nD τ) M3 fullShare (k0_pay1 X1)
          ∗ owns (c : Thread nD τ) M4 fullShare (k0_pay2 X2)) -∗ Q ⟨⟩))
      ⊢ wp frame (wpE (defs₀ (F := F)) Variants.none c none) E (cc0_body i M1 h1 M2 h2 M3 h3 M4 h4) Q := by
  rw [cc0_body_eq_skeleton]
  unfold cc0_body_skel
  rw [owns_of_whole c M1 h1, owns_of_whole c M2 h2, owns_of_whole c M3 h3, owns_of_whole c M3 h3, owns_of_whole c M4 h4, owns_of_whole c M4 h4]
  iintro ⟨⟨%f1, %e1, H1⟩, ⟨%f2, %e2, H2⟩, ⟨%f3, -, H3⟩, ⟨%f4, -, H4⟩, Hk⟩
  sl_exec!
  sl_step
  have e3 : M3.view.read (Elt F) (M3.view.writes (Elt F) M3.view.junk (wp_cc0.sl.H3_1 c M1 f1)) = k0_pay1 X1 := by
    unfold wp_cc0.sl.H3_1
    rw [View.read_writes_full]
    exact congrArg k0_pay1 ((View.readAt_full _ _ _).trans e1)
  have e4 : M4.view.read (Elt F) (M4.view.writes (Elt F) M4.view.junk (wp_cc0.sl.H4_1 c M2 f2)) = k0_pay2 X2 := by
    unfold wp_cc0.sl.H4_1
    rw [View.read_writes_full]
    exact congrArg k0_pay2 ((View.readAt_full _ _ _).trans e2)
  iapply Hk
  isplitl [H1]
  · iexists f1; isplitr; swap; (· iexact H1); ipureintro; exact e1
  isplitl [H2]
  · iexists f2; isplitr; swap; (· iexact H2); ipureintro; exact e2
  isplitl [H3]
  · iexists (M3.view.writes (Elt F) M3.view.junk (wp_cc0.sl.H3_1 c M1 f1)); isplitr; swap; (· iexact H3); ipureintro; exact e3
  iexists (M4.view.writes (Elt F) M4.view.junk (wp_cc0.sl.H4_1 c M2 f2)); isplitr; swap; (· iexact H4); ipureintro; exact e4

variable (m : (ℓ : Loc nD τ sig) → Buf (Elt F) ℓ)

/-- A table's block as it is staged at a point. -/
abbrev stg0 (c : Dev nD) (t : Fin cfg0.N) : S4000x32.Idx → Elt F .f32 := ((cfg0.win 0).blk t).view.read (Elt F) (m (loc c main_arg0))
abbrev stg1 (c : Dev nD) (t : Fin cfg0.N) : S4000x32.Idx → Elt F .f32 := ((cfg0.win 1).blk t).view.read (Elt F) (m (loc c main_arg1))

/-- The region's data: the arrays at launch, what the body leaves at each point, the call's signals owed throughout. -/
def dat0 (c : Dev nD) : Dat τ (Elt F) (HIx 1) ℕ UU ℕ cfg0 c where
  A w := m ((c : Thread nD τ).loc (Pipeline.arrRef spec0 w))
  after w t := match w with
    | ⟨0, _⟩ => stg0 m c t
    | ⟨1, _⟩ => stg1 m c t
    | ⟨2, _⟩ => k0_pay1 (stg0 m c t)
    | ⟨3, _⟩ => k0_pay2 (stg1 m c t)
  Φ _ := Pipeline.scopedRest (Ix := HIx 1) (Name := ℕ) (U := UU) (Lvl := ℕ) (Val := Elt F) spec0 c
  q _ := fullShare
  owed _ := (K (F := F)).Otc c 0
  recorded _ := recd (F := F) c 0

/-- What the first window's staging buffer holds at a point: its block of the users' table. -/
theorem before0_0 (c : Dev nD) (t : Fin cfg0.N) (d : (cfg0.win 0).block.Idx → Elt F (cfg0.win 0).elt) : (dat0 m c).before 0 t d = stg0 m c t := by
  unfold Dat.before; rw [if_pos (fetch0_0 t)]; rfl
/-- What the second window's staging buffer holds at a point: its block of the items' table. -/
theorem before0_1 (c : Dev nD) (t : Fin cfg0.N) (d : (cfg0.win 1).block.Idx → Elt F (cfg0.win 1).elt) : (dat0 m c).before 1 t d = stg1 m c t := by
  unfold Dat.before; rw [if_pos (fetch0_1 t)]; rfl

set_option maxRecDepth 65536 in
/-- The body at a point writes both blocks, their columns repeated four times. -/
theorem body_obligation0 (c : Dev nD) : BodyObligation (dat0 m c) (defs₀ (F := F)) 𝒱₀ (none : HIx 1) Set.univ := fun t => by
  rw [bigSep_W0, bigSep_W0]
  rw [show (dat0 m c).Φ t.succ = (dat0 m c).Φ t.castSucc from rfl,
    show (dat0 m c).owesAt (none : HIx 1) t.succ = (dat0 m c).owesAt (none : HIx 1) t.castSucc from rfl]
  iintro ⟨HΦ, Howes, ⟨%d0, H0⟩, ⟨%d1, H1⟩, ⟨%d2, H2⟩, ⟨%d3, H3⟩⟩
  rw [before0_0, before0_1]
  iapply (wp_cc0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (stg0 m c t) (stg1 m c t) ((dat0 m c).before 2 t d2) ((dat0 m c).before 3 t d3) Set.univ _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- What the region leaves in the two wide tables. -/
theorem k0_pay_apply (X : S4000x32.Idx → Elt F .f32) (y : S4000x128.Idx) :
    k0_pay1 X y = X (ValueIdx.ix2 (n0 := 4000) (n1 := 32) (y 0) ⟨(y 1).val % 32, Nat.mod_lt _ (by decide)⟩) := by
  unfold k0_pay1
  exact concatenate_replicate_apply (s₁ := S4000x32) (t := S4000x128) 1 4 X _ rfl y _ rfl (fun b hb => by
    fin_cases b
    · rfl
    · exact absurd rfl hb)

/-- The four windows stand on the same rows at each point. -/
theorem index0 : ∀ t : Fin grid0.N, win0_0.index t = ![t.val, 0] ∧ win0_1.index t = ![t.val, 0] ∧ win0_2.index t = ![t.val, 0] ∧ win0_3.index t = ![t.val, 0] := by
  decide +kernel

/-- After all points the first output is the users' table, widened. -/
theorem final0_2 (c : Dev nD) : (dat0 m c).arrAt 2 cfg0.N = tU m c := by
  refine (dat0 m c).arrAt_eq_of_covers 2 _ (by decide +kernel) fun t hf y => ?_
  blk_simp
  show k0_pay1 (stg0 m c t) y = _
  rw [k0_pay_apply]
  show m (loc c main_arg0) _ = m (loc c main_arg0) _
  congr 1
  have e0 := (index0 t).1
  have e2 := (index0 t).2.2.1
  funext a
  apply Fin.ext
  fin_cases a
  · show (((cfg0.win 0).blk t).view.emb _ 0 : ℕ) = ((win0_2.blk t).view.emb y 0 : ℕ)
    blk_simp [e0, e2]
    rfl
  · show (((cfg0.win 0).blk t).view.emb _ 1 : ℕ) = ((win0_2.blk t).view.emb y 1 : ℕ) % 32
    blk_simp [e0, e2]
    rfl

/-- After all points the second output is the items' table, widened. -/
theorem final0_3 (c : Dev nD) : (dat0 m c).arrAt 3 cfg0.N = tI m c := by
  refine (dat0 m c).arrAt_eq_of_covers 3 _ (by decide +kernel) fun t hf y => ?_
  blk_simp
  show k0_pay1 (stg1 m c t) y = _
  rw [k0_pay_apply]
  show m (loc c main_arg1) _ = m (loc c main_arg1) _
  congr 1
  have e1 := (index0 t).2.1
  have e3 := (index0 t).2.2.2
  funext a
  apply Fin.ext
  fin_cases a
  · show (((cfg0.win 1).blk t).view.emb _ 0 : ℕ) = ((win0_3.blk t).view.emb y 0 : ℕ)
    blk_simp [e1, e3]
    rfl
  · show (((cfg0.win 1).blk t).view.emb _ 1 : ℕ) = ((win0_3.blk t).view.emb y 1 : ℕ) % 32
    blk_simp [e1, e3]
    rfl

/-- The proof data family of the first region. -/
def pd0 : (p : Fin 2) → (c : Dev nD) → Dat τ (Elt F) (HIx 1) ℕ UU ℕ (Pipeline.pin (pcfgs (F := F)) adm p) c
  | ⟨0, _⟩ => dat0 m
  | ⟨1, _⟩ => fun c => { A := fun w => m ((c : Thread nD τ).loc (Pipeline.arrRef spec2 w)), after := fun _ _ => fun _ => Classical.arbitrary _, Φ := fun _ => iprop(emp), q := fun _ => fullShare, owed := fun _ => 0 }

/-- The arrays of the first region held at `f`, one by one. -/
theorem arrays0 (c : Dev nD) (f : (w : Fin cfg0.W) → Buf (Elt F) ((cfg0.win w).arr.view.loc (c : Thread nD τ))) :
    ((pd0 m 0 c).arrays f : sProp 𝕄) = iprop((loc c main_arg0 ↦{fullShare} f 0) ∗ (loc c main_arg1 ↦{fullShare} f 1) ∗ (loc c main_v0_0 ↦{fullShare} f 2) ∗ (loc c main_v0_1 ↦{fullShare} f 3)) := by
  rw [Pipeline.arrays_eq (Pipeline.pin (pcfgs (F := F)) adm) (pd0 m) 0 c launch0.arr_whole ((pd0 m 0 c).share_full fun _ => rfl)]
  exact bigSep_W0 _

set_option backward.isDefEq.respectTransparency.types false in
/-- The first region: the two tables in, the two wide tables out. -/
def reg0 : Pipeline.RegionSeg (pcfgs (F := F)) adm (pd0 m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 m c).loose
  hwaits c := Pipeline.cellsWaits_intro (Pipeline.pin (pcfgs (F := F)) adm) (pd0 m) (none : HIx 1) 0 c fun w s t => (K (F := F)).mayWait_none _ (Otc_none c 0)
  pre c := iprop((loc c main_arg0 ↦{fullShare} m (loc c main_arg0)) ∗ (loc c main_arg1 ↦{fullShare} m (loc c main_arg1)) ∗ (loc c main_v0_0 ↦{fullShare} m (loc c main_v0_0))
    ∗ (loc c main_v0_1 ↦{fullShare} m (loc c main_v0_1)) ∗ owesI (F := F) c 0)
  post c := iprop((loc c main_arg0 ↦{fullShare} m (loc c main_arg0)) ∗ (loc c main_arg1 ↦{fullShare} m (loc c main_arg1)) ∗ (loc c main_v0_0 ↦{fullShare} tU m c)
    ∗ (loc c main_v0_1 ↦{fullShare} tI m c) ∗ owesI (F := F) c 0)
  X _ := iprop(emp)
  Y _ := iprop(emp)
  Z _ := iprop(emp)
  hentry c := by
    rw [Pipeline.ownSems0_none, arrays0]
    iintro ⟨⟨H0, H1, H2, H3, HO⟩, -, -⟩
    imodintro
    isplitl [H0 H1 H2 H3]
    · isplitl [H0]; · iexact H0
      isplitl [H1]; · iexact H1
      isplitl [H2]; · iexact H2
      iexact H3
    isplitr; · unfold Pipeline.prefHeld; rw [show (Finset.univ : Finset (Fin 0)) = ∅ from rfl, BI.bigSep_empty]; iempintro
    isplitl [HO]; · iapply (owes_in (F := F) c 0 _); iexact HO
    isplitr <;> iempintro
  hin c := by
    rw [show (pd0 m 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pd0 m 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    rw [arrays0, show (pd0 m 0 c).arrAt 0 (Pipeline.pin (pcfgs (F := F)) adm 0).N = m (loc c main_arg0) from (dat0 m c).arrAt_in 0 rfl _,
      show (pd0 m 0 c).arrAt 1 (Pipeline.pin (pcfgs (F := F)) adm 0).N = m (loc c main_arg1) from (dat0 m c).arrAt_in 1 rfl _,
      show (pd0 m 0 c).arrAt 2 (Pipeline.pin (pcfgs (F := F)) adm 0).N = tU m c from final0_2 m c, show (pd0 m 0 c).arrAt 3 (Pipeline.pin (pcfgs (F := F)) adm 0).N = tI m c from final0_3 m c]
    iintro ⟨⟨H0, H1, H2, H3⟩, HO, -, -⟩
    imodintro
    isplitl [H0]; · iexact H0
    isplitl [H1]; · iexact H1
    isplitl [H2]; · iexact H2
    isplitl [H3]; · iexact H3
    iapply (owes_out (F := F) c 0 (Cfg.waitPairs cfg0 none) (by rintro p ⟨w, s, rfl⟩; rfl)); iexact HO

end Cert.Proof.K

end
-- ==== Proof.Region1.lean ====
/-
  The second TensorCore region: the two results from the gathered rows.
-/
module

public import proofs.«01_k».proof.Proof.RegionKit
public import Idealize.ShloMosaic.Lib.VecWindow

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-- The body of the second region, from its five staging buffers: the two results from the three gathered arrays. -/
theorem wp_cc2 (c : Dev nD) (M0 : Memref sig .tc .vmem S16384x128 .f32) (h0 : M0.IsWhole) (M1 : Memref sig .tc .vmem S16384x128 .f32) (h1 : M1.IsWhole)
    (M2 : Memref sig .tc .vmem S16384x128 .f32) (h2 : M2.IsWhole) (M3 : Memref sig .tc .vmem S8x128 .f32) (h3 : M3.IsWhole) (M4 : Memref sig .tc .vmem S8x128 .f32) (h4 : M4.IsWhole)
    (X0 X1 X2 : S16384x128.Idx → Elt F .f32) (X3 X4 : S8x128.Idx → Elt F .f32) (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ owns (c : Thread nD τ) M4 fullShare X4
        ∗ (iprop(owns (c : Thread nD τ) M0 fullShare X0 ∗ owns (c : Thread nD τ) M1 fullShare X1 ∗ owns (c : Thread nD τ) M2 fullShare X2
          ∗ owns (c : Thread nD τ) M3 fullShare (k2_pay7 X0 X1 X2) ∗ owns (c : Thread nD τ) M4 fullShare (k2_pay1 (k2_pay6 X0 X1 X2))) -∗ Q ⟨⟩))
      ⊢ wp frame (wpE (defs₀ (F := F)) Variants.none c none) E (cc2_body M0 h0 M1 h1 M2 h2 M3 h3 M4 h4) Q := by
  rw [cc2_body_eq_skeleton]
  unfold cc2_body_skel
  rw [k2_part1_eq_skeleton]
  unfold k2_part1_skel
  rw [owns_of_whole c M0 h0, owns_of_whole c M1 h1, owns_of_whole c M2 h2, owns_of_whole c M3 h3, owns_of_whole c M3 h3, owns_of_whole c M4 h4, owns_of_whole c M4 h4]
  iintro ⟨⟨%f0, %e0, H0⟩, ⟨%f1, %e1, H1⟩, ⟨%f2, %e2, H2⟩, ⟨%f3, -, H3⟩, ⟨%f4, -, H4⟩, Hk⟩
  sl_exec!
  sl_step
  have r0 : M0.view.readAt (Elt F) (Rect.unit (s := S16384x128) ![0, 0] S16384x128.size inb_S16384x128_S16384x128_0_0).toLoadRect f0 = X0 := (View.readAt_full _ _ _).trans e0
  have r1 : M1.view.readAt (Elt F) (Rect.unit (s := S16384x128) ![0, 0] S16384x128.size inb_S16384x128_S16384x128_0_0).toLoadRect f1 = X1 := (View.readAt_full _ _ _).trans e1
  have r2 : M2.view.readAt (Elt F) (Rect.unit (s := S16384x128) ![0, 0] S16384x128.size inb_S16384x128_S16384x128_0_0).toLoadRect f2 = X2 := (View.readAt_full _ _ _).trans e2
  have e3 : M3.view.read (Elt F) (M3.view.writes (Elt F) M3.view.junk (wp_cc2.sl.H3_1 c M0 M1 M2 f0 f1 f2)) = k2_pay7 X0 X1 X2 := by
    unfold wp_cc2.sl.H3_1
    rw [View.read_writes_full]
    exact congr (congr (congrArg k2_pay7 r0) r1) r2
  have e4 : M4.view.read (Elt F) (M4.view.writes (Elt F) M4.view.junk (wp_cc2.sl.H4_1 c M0 M1 M2 f0 f1 f2)) = k2_pay1 (k2_pay6 X0 X1 X2) := by
    unfold wp_cc2.sl.H4_1
    rw [View.read_writes_full]
    exact congrArg k2_pay1 (congr (congr (congrArg k2_pay6 r0) r1) r2)
  iapply Hk
  isplitl [H0]
  · iexists f0; isplitr; swap; (· iexact H0); ipureintro; exact e0
  isplitl [H1]
  · iexists f1; isplitr; swap; (· iexact H1); ipureintro; exact e1
  isplitl [H2]
  · iexists f2; isplitr; swap; (· iexact H2); ipureintro; exact e2
  isplitl [H3]
  · iexists (M3.view.writes (Elt F) M3.view.junk (wp_cc2.sl.H3_1 c M0 M1 M2 f0 f1 f2)); isplitr; swap; (· iexact H3); ipureintro; exact e3
  iexists (M4.view.writes (Elt F) M4.view.junk (wp_cc2.sl.H4_1 c M0 M1 M2 f0 f1 f2)); isplitr; swap; (· iexact H4); ipureintro; exact e4

variable (m : (ℓ : Loc nD τ sig) → Buf (Elt F) ℓ)

/-- The gathered arrays as they are staged at the one point. -/
abbrev stgU (c : Dev nD) (t : Fin cfg2.N) : S16384x128.Idx → Elt F .f32 := ((cfg2.win 0).blk t).view.read (Elt F) (gU m c)
abbrev stgP (c : Dev nD) (t : Fin cfg2.N) : S16384x128.Idx → Elt F .f32 := ((cfg2.win 1).blk t).view.read (Elt F) (gP m c)
abbrev stgN (c : Dev nD) (t : Fin cfg2.N) : S16384x128.Idx → Elt F .f32 := ((cfg2.win 2).blk t).view.read (Elt F) (gN m c)

/-- The region's data: the gathered arrays, what the body leaves; nothing is owed after the SparseCore call but what is left of it. -/
def dat1 (c : Dev nD) : Dat τ (Elt F) (HIx 1) ℕ UU ℕ cfg2 c where
  A w := match w with
    | ⟨0, _⟩ => gU m c
    | ⟨1, _⟩ => gP m c
    | ⟨2, _⟩ => gN m c
    | ⟨3, _⟩ => m (loc c main_v5_0)
    | ⟨4, _⟩ => m (loc c main_v5_1)
  after w t := match w with
    | ⟨0, _⟩ => stgU m c t
    | ⟨1, _⟩ => stgP m c t
    | ⟨2, _⟩ => stgN m c t
    | ⟨3, _⟩ => k2_pay7 (stgU m c t) (stgP m c t) (stgN m c t)
    | ⟨4, _⟩ => k2_pay1 (k2_pay6 (stgU m c t) (stgP m c t) (stgN m c t))
  Φ _ := Pipeline.scopedRest (Ix := HIx 1) (Name := ℕ) (U := UU) (Lvl := ℕ) (Val := Elt F) spec2 c
  q _ := fullShare
  owed _ := (K (F := F)).Otc c 1
  recorded _ := recd (F := F) c 1

/-- What the first window's staging buffer holds: the users' rows. -/
theorem before2_0 (c : Dev nD) (t : Fin cfg2.N) (d : (cfg2.win 0).block.Idx → Elt F (cfg2.win 0).elt) : (dat1 m c).before 0 t d = stgU m c t := by
  unfold Dat.before; rw [if_pos (fetch2_0 t)]; rfl
/-- What the second window's staging buffer holds: the positive items' rows. -/
theorem before2_1 (c : Dev nD) (t : Fin cfg2.N) (d : (cfg2.win 1).block.Idx → Elt F (cfg2.win 1).elt) : (dat1 m c).before 1 t d = stgP m c t := by
  unfold Dat.before; rw [if_pos (fetch2_1 t)]; rfl
/-- What the third window's staging buffer holds: the negative items' rows. -/
theorem before2_2 (c : Dev nD) (t : Fin cfg2.N) (d : (cfg2.win 2).block.Idx → Elt F (cfg2.win 2).elt) : (dat1 m c).before 2 t d = stgN m c t := by
  unfold Dat.before; rw [if_pos (fetch2_2 t)]; rfl

set_option maxRecDepth 65536 in
/-- The body writes the two result arrays from the three windows. -/
theorem body_obligation1 (c : Dev nD) : BodyObligation (dat1 m c) (defs₀ (F := F)) 𝒱₀ (none : HIx 1) Set.univ := fun t => by
  rw [bigSep_W2, bigSep_W2]
  rw [show (dat1 m c).Φ t.succ = (dat1 m c).Φ t.castSucc from rfl,
    show (dat1 m c).owesAt (none : HIx 1) t.succ = (dat1 m c).owesAt (none : HIx 1) t.castSucc from rfl]
  iintro ⟨HΦ, Howes, ⟨%d0, H0⟩, ⟨%d1, H1⟩, ⟨%d2, H2⟩, ⟨%d3, H3⟩, ⟨%d4, H4⟩⟩
  rw [before2_0, before2_1, before2_2]
  iapply (wp_cc2 c (win2_0.stage (cfg2.slots t 0)) (hstage2_0 0) (win2_1.stage (cfg2.slots t 1)) (hstage2_1 0) (win2_2.stage (cfg2.slots t 2)) (hstage2_2 0) (win2_3.stage (cfg2.slots t 3)) (hstage2_3 0) (win2_4.stage (cfg2.slots t 4)) (hstage2_4 0)
    (stgU m c t) (stgP m c t) (stgN m c t) ((dat1 m c).before 3 t d3) ((dat1 m c).before 4 t d4) Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-- The one point's blocks are the whole arrays. -/
theorem index2 : ∀ t : Fin grid2.N, win2_0.index t = ![0, 0] ∧ win2_1.index t = ![0, 0] ∧ win2_2.index t = ![0, 0] ∧ win2_3.index t = ![0, 0] ∧ win2_4.index t = ![0, 0] := by
  decide +kernel

/-- The first window's block is the whole array. -/
theorem stgU_eq (c : Dev nD) (t : Fin cfg2.N) : stgU m c t = gU m c := by
  funext y
  show gU m c ((win2_0.blk t).view.emb y) = gU m c y
  congr 1
  have e := (index2 t).1
  funext a
  apply Fin.ext
  fin_cases a
  · show ((win2_0.blk t).view.emb y 0 : ℕ) = (y 0 : ℕ)
    blk_simp [e]
  · show ((win2_0.blk t).view.emb y 1 : ℕ) = (y 1 : ℕ)
    blk_simp [e]
/-- The second window's block is the whole array. -/
theorem stgP_eq (c : Dev nD) (t : Fin cfg2.N) : stgP m c t = gP m c := by
  funext y
  show gP m c ((win2_1.blk t).view.emb y) = gP m c y
  congr 1
  have e := (index2 t).2.1
  funext a
  apply Fin.ext
  fin_cases a
  · show ((win2_1.blk t).view.emb y 0 : ℕ) = (y 0 : ℕ)
    blk_simp [e]
  · show ((win2_1.blk t).view.emb y 1 : ℕ) = (y 1 : ℕ)
    blk_simp [e]
/-- The third window's block is the whole array. -/
theorem stgN_eq (c : Dev nD) (t : Fin cfg2.N) : stgN m c t = gN m c := by
  funext y
  show gN m c ((win2_2.blk t).view.emb y) = gN m c y
  congr 1
  have e := (index2 t).2.2.1
  funext a
  apply Fin.ext
  fin_cases a
  · show ((win2_2.blk t).view.emb y 0 : ℕ) = (y 0 : ℕ)
    blk_simp [e]
  · show ((win2_2.blk t).view.emb y 1 : ℕ) = (y 1 : ℕ)
    blk_simp [e]

/-- What the region leaves in the two result arrays. -/
def lossArr (c : Dev nD) : Buf (Elt F) (loc c main_v5_0) := k2_pay7 (gU m c) (gP m c) (gN m c)
def regArr (c : Dev nD) : Buf (Elt F) (loc c main_v5_1) := k2_pay1 (k2_pay6 (gU m c) (gP m c) (gN m c))

/-- The region's first output is the loss array. -/
theorem final1_3 (c : Dev nD) : (dat1 m c).arrAt 3 cfg2.N = lossArr m c := by
  refine (dat1 m c).arrAt_eq_of_covers 3 _ (by decide +kernel) fun t hf y => ?_
  blk_simp
  show k2_pay7 (stgU m c t) (stgP m c t) (stgN m c t) y = lossArr m c ((win2_3.blk t).view.emb y)
  rw [stgU_eq, stgP_eq, stgN_eq]
  unfold lossArr
  congr 1
  have e := (index2 t).2.2.2.1
  funext a
  apply Fin.ext
  symm
  fin_cases a
  · show ((win2_3.blk t).view.emb y 0 : ℕ) = (y 0 : ℕ)
    blk_simp [e]
  · show ((win2_3.blk t).view.emb y 1 : ℕ) = (y 1 : ℕ)
    blk_simp [e]
/-- The region's second output is the regulariser array. -/
theorem final1_4 (c : Dev nD) : (dat1 m c).arrAt 4 cfg2.N = regArr m c := by
  refine (dat1 m c).arrAt_eq_of_covers 4 _ (by decide +kernel) fun t hf y => ?_
  blk_simp
  show k2_pay1 (k2_pay6 (stgU m c t) (stgP m c t) (stgN m c t)) y = regArr m c ((win2_4.blk t).view.emb y)
  rw [stgU_eq, stgP_eq, stgN_eq]
  unfold regArr
  congr 1
  have e := (index2 t).2.2.2.2
  funext a
  apply Fin.ext
  symm
  fin_cases a
  · show ((win2_4.blk t).view.emb y 0 : ℕ) = (y 0 : ℕ)
    blk_simp [e]
  · show ((win2_4.blk t).view.emb y 1 : ℕ) = (y 1 : ℕ)
    blk_simp [e]

/-- The proof data family of the second region. -/
def pd1 : (p : Fin 2) → (c : Dev nD) → Dat τ (Elt F) (HIx 1) ℕ UU ℕ (Pipeline.pin (pcfgs (F := F)) adm p) c
  | ⟨1, _⟩ => dat1 m
  | ⟨0, _⟩ => fun c => { A := fun w => m ((c : Thread nD τ).loc (Pipeline.arrRef spec0 w)), after := fun _ _ => fun _ => Classical.arbitrary _, Φ := fun _ => iprop(emp), q := fun _ => fullShare, owed := fun _ => 0 }

/-- The arrays of the second region held at `f`, one by one. -/
theorem arrays1 (c : Dev nD) (f : (w : Fin cfg2.W) → Buf (Elt F) ((cfg2.win w).arr.view.loc (c : Thread nD τ))) :
    ((pd1 m 1 c).arrays f : sProp 𝕄) = iprop((loc c main_v4_0 ↦{fullShare} f 0) ∗ (loc c main_v4_1 ↦{fullShare} f 1) ∗ (loc c main_v4_2 ↦{fullShare} f 2) ∗ (loc c main_v5_0 ↦{fullShare} f 3) ∗ (loc c main_v5_1 ↦{fullShare} f 4)) := by
  rw [Pipeline.arrays_eq (Pipeline.pin (pcfgs (F := F)) adm) (pd1 m) 1 c launch2.arr_whole ((pd1 m 1 c).share_full fun _ => rfl)]
  exact bigSep_W2 _

set_option backward.isDefEq.respectTransparency.types false in
/-- The second region: the three gathered arrays in, the two results out. -/
def reg1 : Pipeline.RegionSeg (pcfgs (F := F)) adm (pd1 m) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation1 m c).loose
  hwaits c := Pipeline.cellsWaits_intro (Pipeline.pin (pcfgs (F := F)) adm) (pd1 m) (none : HIx 1) 1 c fun w s t => (K (F := F)).mayWait_none _ (Otc_none c 1)
  pre c := iprop((loc c main_v4_0 ↦{fullShare} gU m c) ∗ (loc c main_v4_1 ↦{fullShare} gP m c) ∗ (loc c main_v4_2 ↦{fullShare} gN m c)
    ∗ (loc c main_v5_0 ↦{fullShare} m (loc c main_v5_0)) ∗ (loc c main_v5_1 ↦{fullShare} m (loc c main_v5_1)) ∗ owesI (F := F) c 1)
  post c := iprop((loc c main_v4_0 ↦{fullShare} gU m c) ∗ (loc c main_v4_1 ↦{fullShare} gP m c) ∗ (loc c main_v4_2 ↦{fullShare} gN m c)
    ∗ (loc c main_v5_0 ↦{fullShare} lossArr m c) ∗ (loc c main_v5_1 ↦{fullShare} regArr m c) ∗ owesI (F := F) c 1)
  X _ := iprop(emp)
  Y _ := iprop(emp)
  Z _ := iprop(emp)
  hentry c := by
    rw [Pipeline.ownSems0_none, arrays1]
    iintro ⟨⟨H0, H1, H2, H3, H4, HO⟩, -, -⟩
    imodintro
    isplitl [H0 H1 H2 H3 H4]
    · isplitl [H0]; · iexact H0
      isplitl [H1]; · iexact H1
      isplitl [H2]; · iexact H2
      isplitl [H3]; · iexact H3
      iexact H4
    isplitr; · unfold Pipeline.prefHeld; rw [show (Finset.univ : Finset (Fin 0)) = ∅ from rfl, BI.bigSep_empty]; iempintro
    isplitl [HO]; · iapply (owes_in (F := F) c 1 _); iexact HO
    isplitr <;> iempintro
  hin c := by
    rw [show (pd1 m 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pd1 m 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    rw [arrays1, show (pd1 m 1 c).arrAt 0 (Pipeline.pin (pcfgs (F := F)) adm 1).N = gU m c from (dat1 m c).arrAt_in 0 rfl _,
      show (pd1 m 1 c).arrAt 1 (Pipeline.pin (pcfgs (F := F)) adm 1).N = gP m c from (dat1 m c).arrAt_in 1 rfl _,
      show (pd1 m 1 c).arrAt 2 (Pipeline.pin (pcfgs (F := F)) adm 1).N = gN m c from (dat1 m c).arrAt_in 2 rfl _,
      show (pd1 m 1 c).arrAt 3 (Pipeline.pin (pcfgs (F := F)) adm 1).N = lossArr m c from final1_3 m c,
      show (pd1 m 1 c).arrAt 4 (Pipeline.pin (pcfgs (F := F)) adm 1).N = regArr m c from final1_4 m c]
    iintro ⟨⟨H0, H1, H2, H3, H4⟩, HO, -, -⟩
    imodintro
    isplitl [H0]; · iexact H0
    isplitl [H1]; · iexact H1
    isplitl [H2]; · iexact H2
    isplitl [H3]; · iexact H3
    isplitl [H4]; · iexact H4
    iapply (owes_out (F := F) c 1 (Cfg.waitPairs cfg2 none) (by rintro p ⟨w, s, rfl⟩; rfl)); iexact HO

end Cert.Proof.K

end
-- ==== Proof.Main.lean ====
/-
  The program on the TensorCore and the launch: from launch memory to the two results.
-/
module

public import proofs.«01_k».proof.Proof.Region0
public import proofs.«01_k».proof.Proof.Region1
public import Idealize.ShloMosaic.Lib.StableHlo.Run

@[expose] public section

noncomputable section

namespace Cert.Proof.K

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Idealize.ShloMosaic.Pipeline (Dat Cfg Window BodyObligation cellOf)

variable {F : FTy → Type} [FloatOps F]

local notation "𝕄" => MT nD τ sig (HIx 1) (Elt F) ℕ UU ℕ

/-- A host operation that reads `x` and writes `y`, each held whole. -/
theorem wp_op (d : Dev nD) (op : HloOp τ sig (Elt F)) (x y : DevRef τ sig) (hxy : x ≠ y) (hb : op.bufs = {x, y}) (hw : op.writes = {y}) (hf : op.fresh = ∅)
    (X : Buf (Elt F) (d, x)) (Y Z : Buf (Elt F) (d, y)) (hz : ∀ V : Valuation τ sig (Elt F), V x = X → op.result V y = Z) (V₀ : Valuation τ sig (Elt F)) (Q : PUnit → sProp 𝕄) :
    iprop(boundary (SparseCore.T d) ∗ (((d, x) : Loc nD τ sig) ↦{fullShare} X) ∗ (((d, y) : Loc nD τ sig) ↦{fullShare} Y)
        ∗ ((boundary (SparseCore.T d) ∗ (((d, x) : Loc nD τ sig) ↦{fullShare} X) ∗ (((d, y) : Loc nD τ sig) ↦{fullShare} Z)) -∗ Q ⟨⟩))
      ⊢ wp frame (wpE ((K (F := F)).defs (D (F := F))) 𝒱 (SparseCore.T d) none) Set.univ (hlo rfl op (fun _ => .ret ⟨⟩)) Q := by
  classical
  obtain ⟨V, hV⟩ : ∃ V, V = Function.update (Function.update V₀ x X) y Y := ⟨_, rfl⟩
  have hx : V x = X := by rw [hV, Function.update_of_ne hxy, Function.update_self]
  have hy : V y = Y := by rw [hV, Function.update_self]
  have hrx : op.result V x = X := by rw [op.result_of_not_mem V (by rw [hw, Finset.mem_singleton]; exact hxy), hx]
  have hry : op.result V y = Z := hz V hx
  iintro ⟨Hb, Hx, Hy, Hk⟩
  iapply (wp_hlo 𝒱 (SparseCore.T d) none Set.univ (op := op) (q := fun _ => fullShare) (F := V) (fun _ _ => rfl) hf) $$ [Hb Hx Hy]
  · isplitl [Hb]; · iexact Hb
    rw [hb, SparseCore.bigSep_insert' (by rwa [Finset.mem_singleton]), bigSep_singleton, hx, hy]
    isplitl [Hx] <;> iassumption
  rw [hb, SparseCore.bigSep_insert' (by rwa [Finset.mem_singleton]), bigSep_singleton, hrx, hry]
  iintro H
  rw [wp_ret]; imodintro
  iapply Hk; iexact H

variable (m : (ℓ : Loc nD τ sig) → Buf (Elt F) ℓ) (ρ : Dev nD → PrngReg)

/-- Different buffers of the TensorCore are different buffers of the device. -/
theorem devRef_ne {a b : Ref sig .tc} (h : a ≠ b) : (Proc.devRef .tc a : DevRef τ sig) ≠ Proc.devRef .tc b := StableHlo.devRef_ne_of_ne h

/-- `wp_op` at a reshape. -/
theorem wp_reshape (d : Dev nD) (x y : Ref sig .tc) (hne : x ≠ y) (he : x.ty.elt = y.ty.elt) (hn hx hy) (X : Buf (Elt F) (loc d x)) (Y Z : Buf (Elt F) (loc d y))
    (hz : (fun i => he ▸ shapeCast y.ty.shape X hn i) = Z) (V₀ : Valuation τ sig (Elt F)) (Q : PUnit → sProp 𝕄) :
    iprop(boundary (SparseCore.T d) ∗ (loc d x ↦{fullShare} X) ∗ (loc d y ↦{fullShare} Y)
        ∗ ((boundary (SparseCore.T d) ∗ (loc d x ↦{fullShare} X) ∗ (loc d y ↦{fullShare} Z)) -∗ Q ⟨⟩))
      ⊢ wp frame (wpE ((K (F := F)).defs (D (F := F))) 𝒱 (SparseCore.T d) none) Set.univ (hlo rfl (StableHlo.reshape x y he hn hx hy) (fun _ => .ret ⟨⟩)) Q :=
  wp_op d _ _ _ (devRef_ne hne) rfl rfl rfl X Y Z (fun V hV => by subst hV; rw [StableHlo.reshape_result]; exact hz) V₀ Q

/-- `wp_op` at an operation of one operand. -/
theorem wp_unary (d : Dev nD) (x y : Ref sig .tc) (hne : x ≠ y) (f : x.ty.Contents (Elt F) → y.ty.Contents (Elt F)) (hx hy) (X : Buf (Elt F) (loc d x)) (Y Z : Buf (Elt F) (loc d y))
    (hz : f X = Z) (V₀ : Valuation τ sig (Elt F)) (Q : PUnit → sProp 𝕄) :
    iprop(boundary (SparseCore.T d) ∗ (loc d x ↦{fullShare} X) ∗ (loc d y ↦{fullShare} Y)
        ∗ ((boundary (SparseCore.T d) ∗ (loc d x ↦{fullShare} X) ∗ (loc d y ↦{fullShare} Z)) -∗ Q ⟨⟩))
      ⊢ wp frame (wpE ((K (F := F)).defs (D (F := F))) 𝒱 (SparseCore.T d) none) Set.univ (hlo rfl (StableHlo.unary x y f hx hy) (fun _ => .ret ⟨⟩)) Q :=
  wp_op d _ _ _ (devRef_ne hne) rfl rfl rfl X Y Z (fun V hV => by subst hV; rw [StableHlo.unary_result]; exact hz) V₀ Q

/-- The two results: the leading entry of what the second region leaves. -/
def lossV (d : Dev nD) : Buf (Elt F) (loc d main_v7) :=
  shapeCast S_ (extractStridedSlice S1x1 ![0, 0] (lossArr m d : (⟨S8x128, .f32⟩ : BufTy).Contents (Elt F)) slices_S8x128_S1x1_0_0) shapeCasts_S1x1_S_
def regV (d : Dev nD) : Buf (Elt F) (loc d main_v9) :=
  shapeCast S_ (extractStridedSlice S1x1 ![0, 0] (regArr m d : (⟨S8x128, .f32⟩ : BufTy).Contents (Elt F)) slices_S8x128_S1x1_0_0) shapeCasts_S1x1_S_

/-- A list reshaped to 128 by 128 is its words in order. -/
theorem shapeCast_words (a : S16384.Idx → Elt F .i32) : shapeCast S128x128 a shapeCasts_S16384_S128x128 = words a := by
  funext y
  refine shapeCast_apply a _ y _ ?_
  rw [Shape.rowMajor_val_one, Shape.rowMajor_val_two]
  rfl

/-! ## The launch's ghost state -/

/-- The handshakes' cells and tokens and the two pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What the launch deals @main of the pipelines' ghost state. -/
def G (d : Dev nD) : sProp 𝕄 :=
  iprop((Pipeline.cellsGhost (Pipeline.pin (pcfgs (F := F)) adm) EP 0 d ∗ Pipeline.cellsGhost (Pipeline.pin (pcfgs (F := F)) adm) EP 1 d)
    ∗ (Pipeline.toksInit (Pipeline.pin (pcfgs (F := F)) adm) EP 0 d ∗ Pipeline.toksInit (Pipeline.pin (pcfgs (F := F)) adm) EP 1 d))

/-- A separating conjunction over two indices is its two parts. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- A separating conjunction of nothings is nothing. -/
theorem bigSep_none {I : Type} (s : Finset I) : (bigSep s fun _ => iprop(emp)) = (iprop(emp) : sProp 𝕄) := bigSep_emp_const s

/-- The launch's ghost state yields the handshakes' part, each device's part for the two regions, and nothing for the tiles. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HP⟩
  ihave HP' := (show (BI.own (embR (initOf (Pipeline.cells (Pipeline.pin (pcfgs (F := F)) adm) cellOf_inj) (Pipeline.launchToks (Pipeline.pin (pcfgs (F := F)) adm) cellOf_inj), (1 : Counters))) : sProp 𝕄)
      ⊢ BI.own (EP (initOf (Pipeline.cells (Pipeline.pin (pcfgs (F := F)) adm) cellOf_inj) (Pipeline.launchToks (Pipeline.pin (pcfgs (F := F)) adm) cellOf_inj))) from BI.Entails.refl _) $$ HP
  imod (Pipeline.fund_ghost (Pipeline.pin (pcfgs (F := F)) adm) (EP (F := F)) cellOf_inj) $$ HP' with ⟨Hg, Ht⟩
  imodintro
  isplitl [HH]; · iexact HH
  isplitl [Hg Ht]
  · unfold G
    rw [bigSep_sep']
    isplitl [Hg]
    · iapply (Entails.of_eq (bigSep_congr fun d _ => bigSep_two (fun p => Pipeline.cellsGhost (Pipeline.pin (pcfgs (F := F)) adm) EP p d))); iexact Hg
    · iapply (Entails.of_eq (bigSep_congr fun d _ => bigSep_two (fun p => Pipeline.toksInit (Pipeline.pin (pcfgs (F := F)) adm) EP p d))); iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## @main -/

/-- The buffers a region does not own, one by one. -/
theorem bigSep_unscoped (Φ : Ref sig .tc → sProp 𝕄) :
    bigSep (Finset.univ.filter fun b : Ref sig .tc => ¬ b.isScoped) Φ = iprop(Φ main_arg0 ∗ Φ main_arg1 ∗ Φ main_arg2 ∗ Φ main_arg3 ∗ Φ main_arg4 ∗ Φ main_v0_0 ∗ Φ main_v0_1 ∗ Φ main_v1 ∗ Φ main_v2 ∗ Φ main_v3 ∗ Φ main_v4_0 ∗ Φ main_v4_1 ∗ Φ main_v4_2 ∗ Φ main_v5_0 ∗ Φ main_v5_1 ∗ Φ main_v6 ∗ Φ main_v7 ∗ Φ main_v8 ∗ Φ main_v9) := by
  rw [show (Finset.univ.filter fun b : Ref sig .tc => ¬ b.isScoped) = {main_arg0, main_arg1, main_arg2, main_arg3, main_arg4, main_v0_0, main_v0_1, main_v1, main_v2, main_v3, main_v4_0, main_v4_1, main_v4_2, main_v5_0, main_v5_1, main_v6, main_v7, main_v8, main_v9} by decide +kernel]
  iterate 18 rw [SparseCore.bigSep_insert' (by decide +kernel)]
  rw [bigSep_singleton]

/-- The buffers that live through @main, held one by one. -/
theorem unscopedBufs_eq (d : Dev nD) (W : (b : Ref sig .tc) → Buf (Elt F) ((d.tc : Thread nD τ).loc b)) :
    (unscopedBufs d W : sProp 𝕄) = iprop((loc d main_arg0 ↦{fullShare} W main_arg0) ∗ (loc d main_arg1 ↦{fullShare} W main_arg1) ∗ (loc d main_arg2 ↦{fullShare} W main_arg2)
      ∗ (loc d main_arg3 ↦{fullShare} W main_arg3) ∗ (loc d main_arg4 ↦{fullShare} W main_arg4) ∗ (loc d main_v0_0 ↦{fullShare} W main_v0_0) ∗ (loc d main_v0_1 ↦{fullShare} W main_v0_1)
      ∗ (loc d main_v1 ↦{fullShare} W main_v1) ∗ (loc d main_v2 ↦{fullShare} W main_v2) ∗ (loc d main_v3 ↦{fullShare} W main_v3)
      ∗ (loc d main_v4_0 ↦{fullShare} W main_v4_0) ∗ (loc d main_v4_1 ↦{fullShare} W main_v4_1) ∗ (loc d main_v4_2 ↦{fullShare} W main_v4_2)
      ∗ (loc d main_v5_0 ↦{fullShare} W main_v5_0) ∗ (loc d main_v5_1 ↦{fullShare} W main_v5_1)
      ∗ (loc d main_v6 ↦{fullShare} W main_v6) ∗ (loc d main_v7 ↦{fullShare} W main_v7) ∗ (loc d main_v8 ↦{fullShare} W main_v8) ∗ (loc d main_v9 ↦{fullShare} W main_v9)) := by
  unfold unscopedBufs
  exact bigSep_unscoped (fun b => (d.tc : Thread nD τ).loc b ↦{fullShare} W b)

/-- What @main ends holding: the arguments as launched, the two results. -/
abbrev FIN (d : Dev nD) : sProp 𝕄 :=
  iprop((loc d main_arg0 ↦{fullShare} m (loc d main_arg0)) ∗ (loc d main_arg1 ↦{fullShare} m (loc d main_arg1)) ∗ (loc d main_arg2 ↦{fullShare} m (loc d main_arg2))
    ∗ (loc d main_arg3 ↦{fullShare} m (loc d main_arg3)) ∗ (loc d main_arg4 ↦{fullShare} m (loc d main_arg4))
    ∗ (loc d main_v7 ↦{fullShare} lossV m d) ∗ (loc d main_v9 ↦{fullShare} regV m d))

/-- Region 0 run from @main. -/
theorem wp_reg0 [∀ e, Nonempty (Elt F e)] (c : Dev nD) :
    iprop(boundary (c : Thread nD τ) ∗ iprop((loc c main_arg0 ↦{fullShare} m (loc c main_arg0)) ∗ (loc c main_arg1 ↦{fullShare} m (loc c main_arg1)) ∗ (loc c main_v0_0 ↦{fullShare} m (loc c main_v0_0))
    ∗ (loc c main_v0_1 ↦{fullShare} m (loc c main_v0_1)) ∗ owesI (F := F) c 0) ∗ levAts (K (F := F)).L (K (F := F)).lev ∗ Pipeline.cellsGhost (Pipeline.pin (pcfgs (F := F)) adm) EP 0 c
        ∗ Pipeline.toksInit (Pipeline.pin (pcfgs (F := F)) adm) EP 0 c)
      ⊢ wp frame (wpE ((K (F := F)).defs (D (F := F))) 𝒱 (SparseCore.T c) none) Set.univ (Prog.lift (.customCall (SparseCore.inner (Pipeline.entry 0)) ()))
          (fun _ => iprop(boundary (c : Thread nD τ) ∗ iprop((loc c main_arg0 ↦{fullShare} m (loc c main_arg0)) ∗ (loc c main_arg1 ↦{fullShare} m (loc c main_arg1)) ∗ (loc c main_v0_0 ↦{fullShare} tU m c)
    ∗ (loc c main_v0_1 ↦{fullShare} tI m c) ∗ owesI (F := F) c 0))) :=
  wp_region (reg0 m) c

/-- Region 1 run from @main. -/
theorem wp_reg1 [∀ e, Nonempty (Elt F e)] (c : Dev nD) :
    iprop(boundary (c : Thread nD τ) ∗ iprop((loc c main_v4_0 ↦{fullShare} gU m c) ∗ (loc c main_v4_1 ↦{fullShare} gP m c) ∗ (loc c main_v4_2 ↦{fullShare} gN m c)
    ∗ (loc c main_v5_0 ↦{fullShare} m (loc c main_v5_0)) ∗ (loc c main_v5_1 ↦{fullShare} m (loc c main_v5_1)) ∗ owesI (F := F) c 1) ∗ levAts (K (F := F)).L (K (F := F)).lev ∗ Pipeline.cellsGhost (Pipeline.pin (pcfgs (F := F)) adm) EP 1 c
        ∗ Pipeline.toksInit (Pipeline.pin (pcfgs (F := F)) adm) EP 1 c)
      ⊢ wp frame (wpE ((K (F := F)).defs (D (F := F))) 𝒱 (SparseCore.T c) none) Set.univ (Prog.lift (.customCall (SparseCore.inner (Pipeline.entry 1)) ()))
          (fun _ => iprop(boundary (c : Thread nD τ) ∗ iprop((loc c main_v4_0 ↦{fullShare} gU m c) ∗ (loc c main_v4_1 ↦{fullShare} gP m c) ∗ (loc c main_v4_2 ↦{fullShare} gN m c)
    ∗ (loc c main_v5_0 ↦{fullShare} lossArr m c) ∗ (loc c main_v5_1 ↦{fullShare} regArr m c) ∗ owesI (F := F) c 1))) :=
  wp_region (reg1 m) c

/-- What the TensorCore holds before call `n`: what it owes, and the handshakes' state. -/
def tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (Q := 1) (N := 1) q)) 1)))
/-- What the TensorCore holds before call `n`, as what it owes and the rest. -/
theorem tcSt_eq (d : Dev nD) (n : ℕ) : ((K (F := F)).tcSt EH d n : sProp 𝕄) = iprop(owesI (F := F) d n ∗ tcRest (F := F) d n) := rfl

/-- @main from the launch memory: the two regions, the SparseCore call and the host operations leave every array at its contents. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [unscopedBufs_eq, tcSt_eq d 0, tcSt_eq d 1]
  simp only [main, wp_bind, wp_pure]
  iintro ⟨#Hctx, ⟨HO, Hst⟩, ⟨Hb, ⟨Ha0, Ha1, Ha2, Ha3, Ha4, Hv00, Hv01, Hv1, Hv2, Hv3, Hv40, Hv41, Hv42, Hv50, Hv51, Hv6, Hv7, Hv8, Hv9⟩, Hts, -⟩, ⟨⟨Hc0, Hc1⟩, ⟨Ht0, Ht1⟩⟩⟩
  ihave #Hlev := (SparseCore.Cfg.ctx_levAts (K := K (F := F)) (EH := EH) (P := P m) κ) $$ Hctx
  -- the two tables made wide
  iapply (wp_wand_r frame _ _)
  isplitl [Hb Ha0 Ha1 Hv00 Hv01 HO Hc0 Ht0]
  · iapply (wp_reg0 m d)
    isplitl [Hb]; · iexact Hb
    isplitl [Ha0 Ha1 Hv00 Hv01 HO]
    · isplitl [Ha0]; · iexact Ha0
      isplitl [Ha1]; · iexact Ha1
      isplitl [Hv00]; · iexact Hv00
      isplitl [Hv01]; · iexact Hv01
      iexact HO
    isplitr; · iexact Hlev
    isplitl [Hc0] <;> iassumption
  iintro %_ ⟨Hb, ⟨Ha0, Ha1, Hv00, Hv01, HO⟩⟩
  -- the three lists reshaped
  iapply (wp_reshape d main_arg2 main_v1 (by decide) _ _ _ _
    (m (loc d main_arg2)) (m (loc d main_v1)) (iU m d) (shapeCast_words _) (fun b => m (d, b)) _)
  isplitl [Hb]; · iexact Hb
  isplitl [Ha2]; · iexact Ha2
  isplitl [Hv1]; · iexact Hv1
  iintro ⟨Hb, Ha2, Hv1⟩
  iapply (wp_reshape d main_arg3 main_v2 (by decide) _ _ _ _
    (m (loc d main_arg3)) (m (loc d main_v2)) (iP m d) (shapeCast_words _) (fun b => m (d, b)) _)
  isplitl [Hb]; · iexact Hb
  isplitl [Ha3]; · iexact Ha3
  isplitl [Hv2]; · iexact Hv2
  iintro ⟨Hb, Ha3, Hv2⟩
  iapply (wp_reshape d main_arg4 main_v3 (by decide) _ _ _ _
    (m (loc d main_arg4)) (m (loc d main_v3)) (iN m d) (shapeCast_words _) (fun b => m (d, b)) _)
  isplitl [Hb]; · iexact Hb
  isplitl [Ha4]; · iexact Ha4
  isplitl [Hv3]; · iexact Hv3
  iintro ⟨Hb, Ha4, Hv3⟩
  -- the gathers
  iapply ((K (F := F)).wp_run (D (F := F)) 𝒱 (EH := EH) (P := P m) κ d 0)
  isplitr; · iexact Hctx
  isplitl [HO Hst]
  · rw [show ((0 : Fin 1).val) = 0 from rfl, tcSt_eq d 0]
    isplitl [HO]; · iexact HO
    iexact Hst
  isplitl [Hv1 Hv2 Hv3 Hv00 Hv01 Hv40 Hv41 Hv42]
  · rw [st0_eq]
    unfold callIn
    isplitl [Hv1]; · iexact Hv1
    isplitl [Hv2]; · iexact Hv2
    isplitl [Hv3]; · iexact Hv3
    isplitl [Hv00]; · iexact Hv00
    isplitl [Hv01]; · iexact Hv01
    isplitl [Hv40]; · iexact Hv40
    isplitl [Hv41]; · iexact Hv41
    iexact Hv42
  rw [dn0_eq, show ((0 : Fin 1).val + 1) = 1 from rfl, tcSt_eq d 1]
  unfold callOut
  iintro ⟨⟨HO, Hst⟩, Hv1, Hv2, Hv3, Hv00, Hv01, Hv40, Hv41, Hv42⟩
  -- the two losses
  iapply (wp_wand_r frame _ _)
  isplitl [Hb Hv40 Hv41 Hv42 Hv50 Hv51 HO Hc1 Ht1]
  · iapply (wp_reg1 m d)
    isplitl [Hb]; · iexact Hb
    isplitl [Hv40 Hv41 Hv42 Hv50 Hv51 HO]
    · isplitl [Hv40]; · iexact Hv40
      isplitl [Hv41]; · iexact Hv41
      isplitl [Hv42]; · iexact Hv42
      isplitl [Hv50]; · iexact Hv50
      isplitl [Hv51]; · iexact Hv51
      iexact HO
    isplitr; · iexact Hlev
    isplitl [Hc1] <;> iassumption
  iintro %_ ⟨Hb, ⟨Hv40, Hv41, Hv42, Hv50, Hv51, HO⟩⟩
  -- their leading entries
  iapply (wp_unary d main_v5_0 main_v6 (by decide) _ _ _
    (lossArr m d) (m (loc d main_v6)) (extractStridedSlice S1x1 ![0, 0] (lossArr m d : (⟨S8x128, .f32⟩ : BufTy).Contents (Elt F)) slices_S8x128_S1x1_0_0)
    rfl (fun b => m (d, b)) _)
  isplitl [Hb]; · iexact Hb
  isplitl [Hv50]; · iexact Hv50
  isplitl [Hv6]; · iexact Hv6
  iintro ⟨Hb, Hv50, Hv6⟩
  iapply (wp_reshape d main_v6 main_v7 (by decide) _ _ _ _
    (extractStridedSlice S1x1 ![0, 0] (lossArr m d : (⟨S8x128, .f32⟩ : BufTy).Contents (Elt F)) slices_S8x128_S1x1_0_0) (m (loc d main_v7)) (lossV m d)
    rfl (fun b => m (d, b)) _)
  isplitl [Hb]; · iexact Hb
  isplitl [Hv6]; · iexact Hv6
  isplitl [Hv7]; · iexact Hv7
  iintro ⟨Hb, Hv6, Hv7⟩
  iapply (wp_unary d main_v5_1 main_v8 (by decide) _ _ _
    (regArr m d) (m (loc d main_v8)) (extractStridedSlice S1x1 ![0, 0] (regArr m d : (⟨S8x128, .f32⟩ : BufTy).Contents (Elt F)) slices_S8x128_S1x1_0_0)
    rfl (fun b => m (d, b)) _)
  isplitl [Hb]; · iexact Hb
  isplitl [Hv51]; · iexact Hv51
  isplitl [Hv8]; · iexact Hv8
  iintro ⟨Hb, Hv51, Hv8⟩
  iapply (wp_reshape d main_v8 main_v9 (by decide) _ _ _ _
    (extractStridedSlice S1x1 ![0, 0] (regArr m d : (⟨S8x128, .f32⟩ : BufTy).Contents (Elt F)) slices_S8x128_S1x1_0_0) (m (loc d main_v9)) (regV m d)
    rfl (fun b => m (d, b)) _)
  isplitl [Hb]; · iexact Hb
  isplitl [Hv8]; · iexact Hv8
  isplitl [Hv9]; · iexact Hv9
  iintro ⟨Hb, Hv8, Hv9⟩
  imodintro
  isplitl [HO Hst]
  · isplitl [HO]; · iexact HO
    iexact Hst
  isplitr [Hb Hts]
  · isplitl [Ha0]; · iexact Ha0
    isplitl [Ha1]; · iexact Ha1
    isplitl [Ha2]; · iexact Ha2
    isplitl [Ha3]; · iexact Ha3
    isplitl [Ha4]; · iexact Ha4
    isplitl [Hv7] <;> iassumption
  isplitl [Hb] <;> iassumption

/-! ## The run -/

/-- What a final state shows: the arguments as launched, the two results. -/
def fq (d : Dev nD) (s' : Phys nD τ sig (Elt F)) : Prop :=
  s'.mem.mem (loc d main_v7) = lossV m d ∧ s'.mem.mem (loc d main_v9) = regV m d ∧ s'.mem.mem (loc d main_arg0) = m (loc d main_arg0) ∧ s'.mem.mem (loc d main_arg1) = m (loc d main_arg1)
    ∧ s'.mem.mem (loc d main_arg2) = m (loc d main_arg2) ∧ s'.mem.mem (loc d main_arg3) = m (loc d main_arg3) ∧ s'.mem.mem (loc d main_arg4) = m (loc d main_arg4)

/-- A buffer held whole at contents `f` is at `f` in the state. -/
theorem agree (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H' := (persistent_entails_right (SI_pointsTo_agree (st := s') (ℓ := ℓ) (I := Finset.univ) (q := fullShare) (f := f))) $$ [HSI H]
  · isplitl [HSI] <;> iassumption
  icases H' with ⟨%h, HSI, -⟩
  isplitr
  · ipureintro; exact funext fun i => h i (Finset.mem_univ i)
  iexact HSI

/-- What @main holds at its end says what the final memory holds. -/
theorem hfin (d : Dev nD) (s' : Phys nD τ sig (Elt F)) : iprop(FIN m d ∗ SI s') ⊢ (⌜fq m d s'⌝ : sProp 𝕄) := by
  iintro ⟨⟨H0, H1, H2, H3, H4, H7, H9⟩, HS⟩
  ihave H := (agree s' _ _) $$ [H0 HS]
  · isplitl [H0] <;> iassumption
  icases H with ⟨%h0, HS⟩
  ihave H := (agree s' _ _) $$ [H1 HS]
  · isplitl [H1] <;> iassumption
  icases H with ⟨%h1, HS⟩
  ihave H := (agree s' _ _) $$ [H2 HS]
  · isplitl [H2] <;> iassumption
  icases H with ⟨%h2, HS⟩
  ihave H := (agree s' _ _) $$ [H3 HS]
  · isplitl [H3] <;> iassumption
  icases H with ⟨%h3, HS⟩
  ihave H := (agree s' _ _) $$ [H4 HS]
  · isplitl [H4] <;> iassumption
  icases H with ⟨%h4, HS⟩
  ihave H := (agree s' _ _) $$ [H7 HS]
  · isplitl [H7] <;> iassumption
  icases H with ⟨%h7, HS⟩
  ihave H := (agree s' _ _) $$ [H9 HS]
  · isplitl [H9] <;> iassumption
  icases H with ⟨%h9, HS⟩
  ipureintro; exact ⟨h7, h9, h0, h1, h2, h3, h4⟩

/-- Every device's results and arguments, every semaphore at zero. -/
def QC : PUnit × MemSt nD τ sig (Elt F) → Prop := fun r => (∀ c : Dev nD,
  r.2.mem (loc c main_v7) = lossV m c ∧ r.2.mem (loc c main_v9) = regV m c ∧ r.2.mem (loc c main_arg0) = m (loc c main_arg0) ∧ r.2.mem (loc c main_arg1) = m (loc c main_arg1)
    ∧ r.2.mem (loc c main_arg2) = m (loc c main_arg2) ∧ r.2.mem (loc c main_arg3) = m (loc c main_arg3) ∧ r.2.mem (loc c main_arg4) = m (loc c main_arg4)) ∧ r.2.sem = fun _ => 0

/-- From a launch memory whose lists stay inside the tables, the program ends with the two results. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

end Cert.Proof.K

end
-- ==== Proof.Pre.lean ====
/-
  What the two preconditions say: every index word names one of the million rows and, for the second, every
  entry of the two tables is a real number.
-/
module

public import proofs.«01_k».proof.Proof.Gen.Pre_in_range
public import proofs.«01_k».proof.Proof.Gen.Pre_in_range_finite
public import Idealize.ShloMosaic.Lib.ReduceAll
public import Idealize.ShloMosaic.Lib.WordCmp
public import Idealize.ShloMosaic.Lib.IdealHost

@[expose] public section

noncomputable section

namespace Cert.Proof.K

open Idealize.ShloMosaic Idealize.ShloMosaic.ValueIdx

/-- A word that compares at least zero and below a million, both signed, is below a million. -/
theorem word_lt (v : BitVec 32) (h0 : IntOp.cmpi .sge v 0#32 = 1#1) (h1 : IntOp.cmpi .slt v 1000000#32 = 1#1) : v.toNat < 1000000 := by
  simp only [IntOp.cmpi, WordCmp.ofBool_eq_one_iff, BitVec.sle_eq_decide, BitVec.slt_eq_decide, decide_eq_true_eq, BitVec.toInt_eq_toNat_cond, BitVec.toNat_ofNat,
    Nat.reducePow, Nat.reduceMod] at h0 h1
  omega

/-- A scalar has one index only. -/
instance : Subsingleton (Shape.Idx (⟨0, ![]⟩ : Shape)) := ⟨fun a b => funext fun k => k.elim0⟩

/-- The printed range check of one index list says that every word of the list is below a million. -/
theorem list_lt {s u : Shape} {axes : List (Fin s.rank)} (x a b : IVec s 32) (i₁ i₂ : u.Idx → BitVec 1) (h : s.ReducesTo axes ⟨0, ![]⟩) (hu : 0 < u.numel)
    (ha : ∀ i, a i = 0#32) (hb : ∀ i, b i = 1000000#32)
    (e₁ : Host.reduce IntOp.andi (cmpi .sge x a) i₁ h hu ix0 = 1#1) (e₂ : Host.reduce IntOp.andi (cmpi .slt x b) i₂ h hu ix0 = 1#1) (i : s.Idx) :
    (x i).toNat < 1000000 := by
  refine word_lt _ ?_ ?_
  · have := Host.reduce_andi_all _ _ h hu ix0 e₁ i
    rw [← ha i]; exact this
  · have := Host.reduce_andi_all _ _ h hu ix0 e₂ i
    rw [← hb i]; exact this

variable {F : FTy → Type} [FloatOps F]

/-- The first precondition bounds every word of the three index lists. -/
theorem in_range_lt (t₁ t₂ : FVec F Cert.Pre_in_range.S1000000x32 .f32) (a b c : IVec Cert.Pre_in_range.S16384 32)
    (e : Cert.Pre_in_range.fn (F := F) t₁ t₂ a b c = fun _ => 1#1) (j : Cert.Pre_in_range.S16384.Idx) :
    (a j).toNat < 1000000 ∧ (b j).toNat < 1000000 ∧ (c j).toNat < 1000000 := by
  obtain ⟨e, h6⟩ := IntOp.andi_eq_one.1 (congrFun e ix0)
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  exact ⟨list_lt _ _ _ _ _ _ _ (fun _ => rfl) (fun _ => rfl) h1 h2 j, list_lt _ _ _ _ _ _ _ (fun _ => rfl) (fun _ => rfl) h3 h4 j,
    list_lt _ _ _ _ _ _ _ (fun _ => rfl) (fun _ => rfl) h5 h6 j⟩

/-- An extended real whose absolute value is below the top one is a real number. -/
theorem real_of_abs_lt (x : Ideal .f32) (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop, Ideal.cmp, WordCmp.ofBool_eq_one_iff, decide_eq_true_eq, max_lt_iff] at h'
  obtain ⟨h1, h2⟩ := h'
  induction x using EReal.rec with
  | bot => exact absurd h2 (by simp)
  | coe r => exact ⟨r, rfl⟩
  | top => exact absurd h1 (by simp)

/-- The second precondition bounds every word of the three index lists too, and makes every entry of the two
    tables a real number. -/
theorem in_range_finite_real (t₁ t₂ : FVec Ideal Cert.Pre_in_range_finite.S1000000x32 .f32) (a b c : IVec Cert.Pre_in_range_finite.S16384 32)
    (e : Cert.Pre_in_range_finite.fn (F := Ideal) t₁ t₂ a b c = fun _ => 1#1) :
    (∀ j, (a j).toNat < 1000000 ∧ (b j).toNat < 1000000 ∧ (c j).toNat < 1000000) ∧ (∀ i, ∃ r : ℝ, t₁ i = (r : EReal)) ∧ ∀ i, ∃ r : ℝ, t₂ i = (r : EReal) := by
  obtain ⟨e, f2⟩ := IntOp.andi_eq_one.1 (congrFun e ix0)
  obtain ⟨e, f1⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨h1, h2⟩ := IntOp.andi_eq_one.1 e
  refine ⟨fun j => ⟨list_lt _ _ _ _ _ _ _ (fun _ => rfl) (fun _ => rfl) h1 h2 j, list_lt _ _ _ _ _ _ _ (fun _ => rfl) (fun _ => rfl) h3 h4 j,
    list_lt _ _ _ _ _ _ _ (fun _ => rfl) (fun _ => rfl) h5 h6 j⟩, fun i => ?_, fun i => ?_⟩
  · exact real_of_abs_lt _ (Host.reduce_andi_all _ _ _ _ ix0 f1 i)
  · exact real_of_abs_lt _ (Host.reduce_andi_all _ _ _ _ ix0 f2 i)

end Cert.Proof.K

end
-- ==== Proof.Frames.lean ====
/-
  The frames: each program runs to an end, leaves its arguments alone and every counter at zero. The printed kernel
  and its idealized print are the same program over any float values, so one run serves both.
-/
module

public import proofs.«01_k».proof.Defs
public import proofs.«01_k».proof.Proof.Main
public import proofs.«01_k».proof.Proof.Pre
public import proofs.«01_k».proof.Proof.Gen.Kernel
public import proofs.«01_k».proof.Proof.Gen.ReferenceIdeal.Run
public import Idealize.ShloMosaic.Lib.Quiescent

@[expose] public section

noncomputable section

namespace Cert.Proof.K

open Idealize.ShloMosaic Idealize.SL.Sem
open Idealize.ShloMosaic.TcCoe

variable {F : FTy → Type} [FloatOps F]

set_option maxRecDepth 20000 in
set_option maxHeartbeats 6000000 in
/-- The two prints have the same kernel bodies on every processor. -/
theorem bodies_same : @Cert.Kernel.defs₀ F _ _ = @Cert.KernelIdeal.defs₀ F _ _ := by
  funext c ℓ a
  cases c with
  | tc =>
    match ℓ, a with
    | 0, a => rfl
    | 1, a => rfl
    | 2, a => rfl
  | scScalar c =>
    match ℓ, a with
    | 0, a => rfl
    | 1, a => rfl
    | 2, a => rfl
  | scVector c s =>
    match ℓ, a with
    | 0, a => rfl
    | 1, a => rfl
    | 2, a => rfl

/-- The two prints have the same body table. -/
theorem defs_same : (Cert.Kernel.defs (F := F)) = (Cert.KernelIdeal.defs (F := F)) :=
  congrArg (fun d => Cert.KernelIdeal.sc.defs (Pipeline.defs Cert.KernelIdeal.pcfgs d)) bodies_same

/-- The two prints run the same programs on the threads. -/
theorem threads_same : (Cert.Kernel.threads (F := F)) = (Cert.KernelIdeal.threads (F := F)) := rfl

/-- The run of the idealized print, said of the other print. -/
theorem run_kernel [∀ e, Nonempty (Elt F e)] (m : (ℓ : Loc Cert.Kernel.nD Cert.Kernel.τ Cert.Kernel.sig) → Buf (Elt F) ℓ) (ρ : Dev Cert.Kernel.nD → PrngReg)
    (hpre : PreOK (F := F) m) : θ_run (Cert.Kernel.defs (F := F)) (Cert.Kernel.threads (F := F)) ⟨m, fun _ => 0, ρ⟩ (QC (F := F) m) := by
  have h := run_main (F := F) m ρ hpre
  rw [← defs_same] at h
  exact h

/-- The printed kernel's frame. -/
theorem frame_Kernel : Cert.quiescent_Kernel := fun m g hp =>
  (θ_run _ _ _).mono (fun _ h => ⟨fun c => (h.1 c).2.2, h.2⟩) (run_kernel m g fun d => in_range_lt _ _ _ _ _ (hp d))

/-- The idealized kernel's frame. -/
theorem frame_KernelIdeal : Cert.quiescent_KernelIdeal := fun m g hp =>
  (θ_run _ _ _).mono (fun _ h => ⟨fun c => (h.1 c).2.2, h.2⟩) (run_main (F := Ideal) m g fun d => in_range_lt _ _ _ _ _ (hp d))

/-- The idealized kernel's frame under the stronger precondition. -/
theorem frame_KernelIdeal_finite : Cert.quiescent_KernelIdeal_pre_in_range_finite := fun m g hp =>
  (θ_run _ _ _).mono (fun _ h => ⟨fun c => (h.1 c).2.2, h.2⟩) (run_main (F := Ideal) m g fun d => (in_range_finite_real _ _ _ _ _ (hp d)).1)

/-- The reference's frame; it has no counter at all. -/
theorem frame_ReferenceIdeal : Cert.quiescent_ReferenceIdeal := fun m g _ =>
  (θ_run _ _ _).mono (fun _ h => ⟨fun c => (h c).2.2, sem_eq_zero_of_no_sems rfl _⟩) (Cert.ReferenceIdeal.Value.run m g)

/-- The reference's frame under the stronger precondition. -/
theorem frame_ReferenceIdeal_finite : Cert.quiescent_ReferenceIdeal_pre_in_range_finite := fun m g _ =>
  (θ_run _ _ _).mono (fun _ h => ⟨fun c => (h c).2.2, sem_eq_zero_of_no_sems rfl _⟩) (Cert.ReferenceIdeal.Value.run m g)

end Cert.Proof.K

end
-- ==== Proof.Math.lean ====
/-
  The two results as sums of extended reals, and the mathematics that joins the kernel's form to the reference's:
  masked lanes drop out, a product distributes over a difference of real numbers, the reciprocal of 16384 is its
  own float.
-/
module

public import Idealize.ShloMosaic.Lib.IdealHost

@[expose] public section

noncomputable section

namespace Cert.Proof.K

open Idealize.ShloMosaic
open scoped BigOperators

/-- A sum over 128 lanes of which only the first 32 count. -/
theorem sum_lanes (f : Fin 32 → EReal) : (∑ k : Fin 128, if h : k.val < 32 then f ⟨k.val, h⟩ else 0) = ∑ k, f k := by
  have := Fin.sum_univ_add (a := 32) (b := 96) (fun k : Fin (32 + 96) => if h : k.val < 32 then f ⟨k.val, h⟩ else (0 : EReal))
  refine this.trans ?_
  simp

/-- The kernel's softplus. -/
def softK (x : EReal) : EReal := max x 0 + Ideal.log (1 + Ideal.exp (0 - max x (-x)))

/-- The reference's softplus, where its difference with zero is an ordinary number. -/
def softR (x : EReal) : EReal := max x 0 + Ideal.log1p (Ideal.exp (-(max (x - 0) (-(x - 0)))))

/-- The two forms of softplus agree. -/
theorem soft_eq (x : EReal) : softK x = softR x := by
  unfold softK softR Ideal.log1p
  rw [sub_zero, zero_sub]

/-- On real rows, the sum of `u (n - p)` is the difference of the two scores. -/
theorem score_eq (u p n : Fin 32 → EReal) (hu : ∀ k, ∃ r : ℝ, u k = r) (hp : ∀ k, ∃ r : ℝ, p k = r) (hn : ∀ k, ∃ r : ℝ, n k = r) :
    ∑ k, u k * (n k - p k) = (∑ k, u k * n k) - ∑ k, u k * p k := by
  choose u' hu using hu
  choose p' hp using hp
  choose n' hn using hn
  simp only [hu, hp, hn, ← EReal.coe_mul, ← EReal.coe_sub]
  have e (f : Fin 32 → ℝ) : (∑ k, (f k : EReal)) = ((∑ k, f k : ℝ) : EReal) := (map_sum (⟨⟨Real.toEReal, EReal.coe_zero⟩, EReal.coe_add⟩ : ℝ →+ EReal) f _).symm
  rw [e, e, e, ← EReal.coe_sub, ← Finset.sum_sub_distrib]
  simp only [mul_sub]

/-- The batch's size as a float word. -/
theorem batch_word : Ideal.ofBits .f32 0x46800000#32 = ((16384 : ℝ) : EReal) := by
  simp [Ideal.ofBits, Ideal.ieee, -EReal.coe_mul]; norm_num

/-- The float word of one batch-th. -/
theorem inv_batch_word : Ideal.ofBits .f32 0x38800000#32 = (((16384 : ℝ)⁻¹ : ℝ) : EReal) := by
  simp [Ideal.ofBits, Ideal.ieee, -EReal.coe_mul]; norm_num

/-- A mean: the product with one batch-th is the quotient by the batch's size. -/
theorem mean_eq (x : EReal) : x * Ideal.ofBits .f32 0x38800000#32 = Ideal.div x (Ideal.ofBits .f32 0x46800000#32) := by
  rw [batch_word, inv_batch_word, Ideal.div, if_neg (by simp), EReal.coe_inv]

/-- The loss from the rows of the three gathers. -/
def lossOf (u p n : Fin 16384 → Fin 32 → EReal) : EReal := ∑ r, softR ((∑ k, u r k * n r k) - ∑ k, u r k * p r k)

/-- The regulariser from the rows of the three gathers. -/
def regOf (u p n : Fin 16384 → Fin 32 → EReal) : EReal :=
  Ideal.div (∑ r, ((∑ k, u r k * u r k) + ∑ k, (p r k * p r k + n r k * n r k))) (Ideal.ofBits .f32 0x46800000#32)

/-- The kernel's form of the loss, on real rows. -/
theorem lossK_eq (u p n : Fin 16384 → Fin 32 → EReal) (hu : ∀ r k, ∃ x : ℝ, u r k = x) (hp : ∀ r k, ∃ x : ℝ, p r k = x) (hn : ∀ r k, ∃ x : ℝ, n r k = x) :
    ∑ r, softK (∑ k, u r k * (n r k - p r k)) = lossOf u p n :=
  Finset.sum_congr rfl fun r _ => by rw [soft_eq, score_eq _ _ _ (hu r) (hp r) (hn r)]

/-- The kernel's form of the regulariser. -/
theorem regK_eq (u p n : Fin 16384 → Fin 32 → EReal) :
    (∑ r, ∑ k, (u r k * u r k + p r k * p r k + n r k * n r k)) * Ideal.ofBits .f32 0x38800000#32 = regOf u p n := by
  have e : (∑ r, ∑ k, (u r k * u r k + p r k * p r k + n r k * n r k)) = ∑ r, ((∑ k, u r k * u r k) + ∑ k, (p r k * p r k + n r k * n r k)) := by
    refine Finset.sum_congr rfl fun r _ => ?_
    rw [← Finset.sum_add_distrib]
    exact Finset.sum_congr rfl fun k _ => add_assoc _ _ _
  rw [mean_eq, regOf, e]

end Cert.Proof.K

end
-- ==== Proof.KernelValue.lean ====
/-
  The kernel's two results at the extended reals, as sums over the looked-up rows.
-/
module

public import proofs.«01_k».proof.Proof.Main
public import proofs.«01_k».proof.Proof.Math
public import Idealize.ShloMosaic.Lib.ValueIdxRank1
public import Idealize.ShloMosaic.Lib.IdealHost

@[expose] public section

noncomputable section

namespace Cert.Proof.K

open Cert.KernelIdeal Cert.KernelIdeal.Gen
open Idealize.ShloMosaic
open Idealize.ShloMosaic.ValueIdx
open scoped BigOperators

/-- Entry `k` of the row that word `r` of a list looks up in a table. -/
def look (t : S1000000x32.Idx → EReal) (a : S16384.Idx → BitVec 32) (r : Fin 16384) (k : Fin 32) : EReal :=
  t (ValueIdx.ix2 (rowNo (a (ValueIdx.ix1 r))) k)

/-- A gathered array at one of its lanes: the looked-up row, its 32 entries repeated. -/
theorem gathered_lane (t : S1000000x32.Idx → Elt Ideal .f32) (a : S16384.Idx → Elt Ideal .i32) (r : Fin 16384) (k : Fin 128) :
    gathered (F := Ideal) (wide t) (words a) (ValueIdx.ix2 r k) = look t a r ⟨k.val % 32, Nat.mod_lt _ (by decide)⟩ := by
  have e : words (F := Ideal) a (listPos r) = a (ValueIdx.ix1 r) := by
    unfold words
    refine congrArg a (congrArg ValueIdx.ix1 (Fin.ext ?_))
    show r.val / 128 * 128 + r.val % 128 = r.val
    omega
  show t (ValueIdx.ix2 (rowNo (words (F := Ideal) a (listPos r))) _) = _
  rw [e]; rfl

/-- The mask of the first 32 lanes. -/
theorem mask_lane (r : Fin 16384) (k : Fin 128) : k2_pay2 (ValueIdx.ix2 r k) = if k.val < 32 then 1#1 else 0#1 := by
  have e : ∀ k : Fin 128, IntOp.cmpi .slt (BitVec.ofNat 32 (0 * 128 + k.val)) 32#32 = if k.val < 32 then 1#1 else 0#1 := by decide
  exact e k

/-- A masked array at a lane. -/
theorem masked_lane (v : FVec Ideal S16384x128 .f32) (r : Fin 16384) (k : Fin 128) :
    select k2_pay2 v (broadcast S16384x128 (Scalar.ofBits (F := Ideal) .f32 0x00000000#32)) (ValueIdx.ix2 r k) = if k.val < 32 then v (ValueIdx.ix2 r k) else 0 := by
  rw [select_apply, mask_lane]
  split
  · rfl
  · exact Ideal.ofBits_zero_f32

/-- The region's first window passes through its cast unchanged. -/
theorem pay3_eq (v : Vec Ideal S16384x128 .f32) : k2_pay3 v = v := funext fun j => shapeCast_apply _ _ j j rfl

/-- The region's second window passes through its cast unchanged. -/
theorem pay4_eq (v : Vec Ideal S16384x128 .f32) : k2_pay4 v = v := funext fun j => shapeCast_apply _ _ j j rfl

/-- The region's third window passes through its cast unchanged. -/
theorem pay5_eq (v : Vec Ideal S16384x128 .f32) : k2_pay5 v = v := funext fun j => shapeCast_apply _ _ j j rfl

variable {F : FTy → Type} [FloatOps F]

/-- A masked array. -/
def masked (v : FVec F S16384x128 .f32) : FVec F S16384x128 .f32 :=
  select k2_pay2 v (broadcast S16384x128 (Scalar.ofBits (F := F) .f32 0x00000000#32))

/-- The sums along the lanes of a masked array. -/
def rowSums (v : FVec F S16384x128 .f32) : FVec F S16384 .f32 :=
  multiReduction .add [1] S16384 (masked v) 0x00000000#32 reduces_S16384x128_S16384 (.inl rfl) rfl

/-- The kernel's softplus of an array, from its words of zero and one. -/
def softs (z o : F .f32) (v : FVec F S16384 .f32) : FVec F S16384 .f32 :=
  addf (maximumf v (broadcast S16384 z)) (log (addf (broadcast S16384 o) (exp (subf (broadcast S16384 z) (absf v)))))

/-- The sum of an array over its 16384 entries, as the region takes it. -/
def rowTotal (v : FVec F S16384 .f32) : F .f32 :=
  extractAt ![0, 0] (shapeCast S1x1 (multiReduction .add [1] S1 (shapeCast S1x16384 v shapeCasts_S16384_S1x16384) 0x00000000#32 reduces_S1x16384_S1 (.inl rfl) rfl)
    shapeCasts_S1_S1x1) inpos_S1x1_p0_0

/-- The sum of an array over all its entries, as the region takes it. -/
def allTotal (v : FVec F S16384x128 .f32) : F .f32 :=
  extractAt ![0, 0, 0] (shapeCast S1x1x1 (multiReduction .add [1, 2] S1 (shapeCast S1x16384x128 v shapeCasts_S16384x128_S1x16384x128) 0x00000000#32
    reduces_S1x16384x128_S1 (.inl rfl) rfl) shapeCasts_S1_S1x1x1) inpos_S1x1x1_p0_0_0

/-- The loss array is a splat of the total of the rows' softplus. -/
theorem pay7_form (u p n : Vec F S16384x128 .f32) (j : S8x128.Idx) :
    k2_pay7 u p n j = rowTotal (softs (Scalar.ofBits .f32 0x00000000#32) (Scalar.ofBits .f32 0x3F800000#32) (rowSums (mulf (k2_pay3 u) (subf (k2_pay5 n) (k2_pay4 p))))) := rfl

/-- The regulariser's scalar is the total of the masked squares, scaled. -/
theorem pay6_form (u p n : Vec F S16384x128 .f32) :
    k2_pay6 u p n = Scalar.mulf (allTotal (masked (addf (addf (mulf (k2_pay3 u) (k2_pay3 u)) (mulf (k2_pay4 p) (k2_pay4 p))) (mulf (k2_pay5 n) (k2_pay5 n)))))
      (Scalar.ofBits .f32 0x38800000#32) := rfl

/-- A sum along the lanes of a masked array is the sum of its first 32. -/
theorem row_sum (v : FVec Ideal S16384x128 .f32) (f : Fin 32 → EReal) (r : Fin 16384) (hf : ∀ (k : Fin 128) (h : k.val < 32), v (ValueIdx.ix2 r k) = f ⟨k.val, h⟩) :
    rowSums v (ValueIdx.ix1 r) = ∑ k, f k := by
  refine (Ideal.multiReduction_add_single (masked v) _ reduces_S16384x128_S16384 _ _ (ValueIdx.ix1 r)).trans ?_
  rw [← sum_lanes]
  refine Finset.sum_congr rfl fun (k : Fin 128) _ => ?_
  rw [show Shape.Reduces.lift reduces_S16384x128_S16384 (ValueIdx.ix1 r) k = ValueIdx.ix2 r k from by
    funext a; match a with | ⟨0, _⟩ => rfl | ⟨1, _⟩ => rfl]
  refine (masked_lane v r k).trans ?_
  split
  · exact hf k ‹_›
  · rfl

/-- A word read as a scalar at the extended reals. -/
theorem scalar_word (w : BitVec 32) : Scalar.ofBits (F := Ideal) .f32 w = Ideal.ofBits .f32 w := rfl

/-- The kernel's softplus at an entry. -/
theorem softs_apply (z o : Ideal .f32) (hz : z = (0 : EReal)) (ho : o = (1 : EReal)) (v : FVec Ideal S16384 .f32) (i : S16384.Idx) : softs z o v i = softK (v i) := by
  subst hz ho; rfl

/-- The total of 16384 entries. -/
theorem rowTotal_eq (v : FVec Ideal S16384 .f32) : rowTotal v = ∑ r : Fin 16384, v (ValueIdx.ix1 r) := by
  unfold rowTotal extractAt
  refine (shapeCast_apply _ _ _ (ValueIdx.ix1 (0 : Fin 1)) (by rw [Shape.rowMajor_val_one, Shape.rowMajor_val_two]; rfl)).trans ?_
  refine (Ideal.multiReduction_add_single _ _ reduces_S1x16384_S1 _ _ _).trans ?_
  refine Finset.sum_congr rfl fun (r : Fin 16384) _ => ?_
  refine shapeCast_apply _ _ _ (ValueIdx.ix1 r) ?_
  rw [Shape.rowMajor_val_one, Shape.rowMajor_val_two]
  show r.val = 0 * 16384 + r.val
  omega

/-- A rank-3 index with a first axis of one entry is a pair of coordinates. -/
def pairIdx : S1x16384x128.Idx ≃ Fin 16384 × Fin 128 where
  toFun i := (i 1, i 2)
  invFun q := Fin.cons (0 : Fin 1) (Fin.cons q.1 (Fin.cons q.2 finZeroElim))
  left_inv i := by
    funext a
    match a with
    | ⟨0, _⟩ => exact (Subsingleton.elim (α := Fin 1) _ _)
    | ⟨1, _⟩ => rfl
    | ⟨2, _⟩ => rfl
  right_inv _ := rfl

/-- The total of a whole array. -/
theorem allTotal_eq (v : FVec Ideal S16384x128 .f32) : allTotal v = ∑ r : Fin 16384, ∑ k : Fin 128, v (ValueIdx.ix2 r k) := by
  unfold allTotal extractAt
  refine (shapeCast_apply _ _ _ (ValueIdx.ix1 (0 : Fin 1)) (by rw [Shape.rowMajor_val_one, Shape.rowMajor_val_three]; rfl)).trans ?_
  refine (Ideal.multiReduction_add_total _ _ reduces_S1x16384x128_S1 (by decide) _ _ _).trans ?_
  rw [← Equiv.sum_comp pairIdx.symm, Fintype.sum_prod_type]
  refine Finset.sum_congr rfl fun r _ => Finset.sum_congr rfl fun k _ => ?_
  refine shapeCast_apply _ _ _ (ValueIdx.ix2 r k) ?_
  rw [Shape.rowMajor_val_three, Shape.rowMajor_val_two]
  show r.val * 128 + k.val = (0 * 16384 + r.val) * 128 + k.val
  omega

/-- The loss array's entries: the sum of every row's softplus. -/
theorem pay7_apply (u p n : FVec Ideal S16384x128 .f32) (j : S8x128.Idx) :
    k2_pay7 (F := Ideal) u p n j = ∑ r : Fin 16384, softK (rowSums (F := Ideal) (mulf u (subf n p)) (ValueIdx.ix1 r)) := by
  rw [pay7_form, rowTotal_eq, pay3_eq, pay4_eq, pay5_eq]
  exact Finset.sum_congr rfl fun r _ => softs_apply _ _ ((scalar_word _).trans Ideal.ofBits_zero_f32) ((scalar_word _).trans Ideal.ofBits_one_f32) _ _

/-- A scalar product at the extended reals. -/
theorem scalar_mul (a b : Ideal .f32) : Scalar.mulf a b = ((a : EReal) * (b : EReal) : EReal) := rfl

/-- The regulariser's scalar: the sum of every row's squares, times one batch-th. -/
theorem pay6_eq (u p n : FVec Ideal S16384x128 .f32) (f : Fin 16384 → Fin 32 → EReal)
    (hf : ∀ r (k : Fin 128) (h : k.val < 32), addf (F := Ideal) (addf (mulf u u) (mulf p p)) (mulf n n) (ValueIdx.ix2 r k) = f r ⟨k.val, h⟩) :
    k2_pay6 (F := Ideal) u p n = (∑ r, ∑ k, f r k) * Ideal.ofBits .f32 0x38800000#32 := by
  have e : allTotal (masked (addf (F := Ideal) (addf (mulf u u) (mulf p p)) (mulf n n))) = ∑ r, ∑ k, f r k := by
    rw [allTotal_eq]
    refine Finset.sum_congr rfl fun r _ => ?_
    rw [← sum_lanes]
    refine Finset.sum_congr rfl fun k _ => (masked_lane _ r k).trans ?_
    split
    · exact hf r k ‹_›
    · rfl
  rw [pay6_form, pay3_eq, pay4_eq, pay5_eq, e, scalar_mul, scalar_word]

/-- The one entry taken out of a result array. -/
theorem first_entry (x : FVec Ideal S8x128 .f32) (j : S_.Idx) :
    shapeCast S_ (extractStridedSlice S1x1 ![0, 0] x slices_S8x128_S1x1_0_0) shapeCasts_S1x1_S_ j = x (ValueIdx.ix2 0 0) := by
  refine (shapeCast_apply _ _ j (ValueIdx.ix2 (0 : Fin 1) (0 : Fin 1)) ?_).trans (extractStridedSlice_apply _ _ _ _ _ ?_)
  · have h1 : (S1x1.rowMajor (ValueIdx.ix2 (0 : Fin 1) (0 : Fin 1))).val = 0 := Nat.lt_one_iff.1 (lt_of_lt_of_eq (Fin.isLt _) (by decide : S1x1.numel = 1))
    have h2 : (S_.rowMajor j).val = 0 := Nat.lt_one_iff.1 (lt_of_lt_of_eq (Fin.isLt _) (by decide : S_.numel = 1))
    exact h1.trans h2.symm
  · intro a; match a with | ⟨0, _⟩ => rfl | ⟨1, _⟩ => rfl

variable (m : (ℓ : Loc nD τ sig) → Buf (Elt Ideal) ℓ)

/-- The users' rows. -/
def uRow (c : Dev nD) : Fin 16384 → Fin 32 → EReal := look (m (loc c main_arg0)) (m (loc c main_arg2))
/-- The positive items' rows. -/
def pRow (c : Dev nD) : Fin 16384 → Fin 32 → EReal := look (m (loc c main_arg1)) (m (loc c main_arg3))
/-- The negative items' rows. -/
def nRow (c : Dev nD) : Fin 16384 → Fin 32 → EReal := look (m (loc c main_arg1)) (m (loc c main_arg4))

/-- A gathered array at one of the first 32 lanes. -/
theorem gathered_low (t : S1000000x32.Idx → Elt Ideal .f32) (a : S16384.Idx → Elt Ideal .i32) (r : Fin 16384) (k : Fin 128) (h : k.val < 32) :
    gathered (F := Ideal) (wide t) (words a) (ValueIdx.ix2 r k) = look t a r ⟨k.val, h⟩ :=
  (gathered_lane t a r k).trans (congrArg (look t a r) (Fin.ext (Nat.mod_eq_of_lt h)))

/-- A gathered array of a table and a list, as the region reads it. -/
def rowsOf (t : S1000000x32.Idx → Elt Ideal .f32) (a : S16384.Idx → Elt Ideal .i32) : FVec Ideal S16384x128 .f32 := gathered (F := Ideal) (wide t) (words a)

/-- A row's score from three gathered arrays. -/
theorem score_row (tu tp tn : S1000000x32.Idx → Elt Ideal .f32) (au ap an : S16384.Idx → Elt Ideal .i32) (r : Fin 16384) :
    rowSums (F := Ideal) (mulf (rowsOf tu au) (subf (rowsOf tn an) (rowsOf tp ap))) (ValueIdx.ix1 r) = ∑ k, look tu au r k * (look tn an r k - look tp ap r k) := by
  refine row_sum _ _ r fun k h => ?_
  rw [ValueIdx.mulf_apply, ValueIdx.subf_apply]
  unfold rowsOf
  rw [gathered_low _ _ r k h, gathered_low _ _ r k h, gathered_low _ _ r k h]

/-- A lane's squares from three gathered arrays. -/
theorem square_lane (tu tp tn : S1000000x32.Idx → Elt Ideal .f32) (au ap an : S16384.Idx → Elt Ideal .i32) (r : Fin 16384) (k : Fin 128) (h : k.val < 32) :
    addf (F := Ideal) (addf (mulf (rowsOf tu au) (rowsOf tu au)) (mulf (rowsOf tp ap) (rowsOf tp ap))) (mulf (rowsOf tn an) (rowsOf tn an)) (ValueIdx.ix2 r k)
      = look tu au r ⟨k.val, h⟩ * look tu au r ⟨k.val, h⟩ + look tp ap r ⟨k.val, h⟩ * look tp ap r ⟨k.val, h⟩ + look tn an r ⟨k.val, h⟩ * look tn an r ⟨k.val, h⟩ := by
  rw [ValueIdx.addf_apply, ValueIdx.addf_apply, ValueIdx.mulf_apply, ValueIdx.mulf_apply, ValueIdx.mulf_apply]
  unfold rowsOf
  rw [gathered_low _ _ r k h, gathered_low _ _ r k h, gathered_low _ _ r k h]

/-- The kernel's loss. -/
theorem lossV_eq (c : Dev nD) (j : S_.Idx) : lossV m c j = ∑ r, softK (∑ k, uRow m c r k * (nRow m c r k - pRow m c r k)) :=
  (first_entry _ j).trans ((pay7_apply _ _ _ _).trans (Finset.sum_congr rfl fun r _ => congrArg softK (score_row _ _ _ _ _ _ r)))

/-- The kernel's regulariser. -/
theorem regV_eq (c : Dev nD) (j : S_.Idx) :
    regV m c j = (∑ r, ∑ k, (uRow m c r k * uRow m c r k + pRow m c r k * pRow m c r k + nRow m c r k * nRow m c r k)) * Ideal.ofBits .f32 0x38800000#32 :=
  (first_entry _ j).trans (pay6_eq _ _ _ (fun r k => uRow m c r k * uRow m c r k + pRow m c r k * pRow m c r k + nRow m c r k * nRow m c r k)
    fun r k h => square_lane _ _ _ _ _ _ r k h)

end Cert.Proof.K

end
-- ==== Proof.RefValue.lean ====
/-
  The reference's two results at the extended reals, as sums over the looked-up rows, for index words in range.
-/
module

public import proofs.«01_k».proof.Proof.Gen.ReferenceIdeal.Run
public import proofs.«01_k».proof.Proof.Math
public import proofs.«01_k».proof.Proof.Base
public import Idealize.ShloMosaic.Lib.ReduceAll
public import Idealize.ShloMosaic.Lib.WordCmp
public import Idealize.ShloMosaic.Lib.ValueIdxRank1
public import Idealize.ShloMosaic.Lib.IdealHost
public import Idealize.ShloMosaic.Lib.Pipeline.Value

@[expose] public section

noncomputable section

namespace Cert.Proof.K.Ref

open Cert.ReferenceIdeal Cert.ReferenceIdeal.Gen
open Idealize.ShloMosaic Idealize.ShloMosaic.TcCoe
open scoped BigOperators

variable {F : FTy → Type} [FloatOps F]

/-- The row numbers a take reads: a negative word counts from the end. -/
def rowIx (a : IVec S16384 32) : IVec S16384x1 32 :=
  broadcastInDim S16384x1 ![0] bcast_S16384_S16384x1_0 (select (cmpi .slt a (broadcastInDim S16384 ![] bcast_S_S16384 (constantI S_ 32 0#32)))
    (addi a (broadcastInDim S16384 ![] bcast_S_S16384 (constantI S_ 32 1000000#32))) a)

/-- Whether each row number is inside the table. -/
def inside (a : IVec S16384 32) : IVec S16384x1 1 :=
  andi (cmpi .sge (rowIx a) (broadcastInDim S16384x1 ![] bcast_S_S16384x1 (constantI S_ 32 0#32)))
    (cmpi .sle (rowIx a) (broadcastInDim S16384x1 ![0, 1] bcast_S1x1_S16384x1_0_1 (broadcastInDim S1x1 ![1] bcast_S1_S1x1_1 (constantI S1 32 999999#32))))

/-- A take of the table's rows: a row outside the table is filled. -/
def takeRows (t : FVec F S1000000x32 .f32) (a : IVec S16384 32) : FVec F S16384x32 .f32 :=
  select (broadcastInDim S16384x32 ![0] bcast_S16384_S16384x32_0 (Host.reduce IntOp.andi (inside a) (constantI S_ 1 1#1) reducesTo_S16384x1_S16384_d1 h_S_))
    (Host.gather gather_S1000000x32_S16384x1_S16384x32_1_0_n_n_0_1_132 t (rowIx a))
    (broadcastInDim S16384x32 ![] bcast_S_S16384x32 (constant S_ .f32 0x7FC00000#32))

/-- The sums along the rows. -/
def rowSum (x : FVec F S16384x32 .f32) : FVec F S16384 .f32 :=
  Host.reduceAdd x (constant S_ .f32 0x00000000#32) reducesTo_S16384x32_S16384_d1 h_S_

/-- The sum over the batch. -/
def batchSum (x : FVec F S16384 .f32) : FVec F S_ .f32 :=
  Host.reduceAdd x (constant S_ .f32 0x00000000#32) reducesTo_S16384_S_d0 h_S_

/-- The zeros the softplus compares with. -/
def zeros : FVec F S16384 .f32 := broadcastInDim S16384 ![] bcast_S_S16384 (constant S_ .f32 0x00000000#32)

/-- The reference's softplus of an array, from an array of zeros. -/
def soft (z x : FVec F S16384 .f32) : FVec F S16384 .f32 :=
  select (cmpf .une (subf x z) (subf x z)) (addf x z) (addf (maximumf x z) (Host.log1p (Host.exp (Host.negf (Host.absf (subf x z))))))

variable (m : (ℓ : Loc nD τ sig) → Buf (Elt F) ℓ)

/-- The users' rows. -/
def takeU (c : Dev nD) : FVec F S16384x32 .f32 := takeRows (m ((c.tc : Thread nD τ).loc main_arg0)) (m ((c.tc : Thread nD τ).loc main_arg2))
/-- The positive items' rows. -/
def takeP (c : Dev nD) : FVec F S16384x32 .f32 := takeRows (m ((c.tc : Thread nD τ).loc main_arg1)) (m ((c.tc : Thread nD τ).loc main_arg3))
/-- The negative items' rows. -/
def takeN (c : Dev nD) : FVec F S16384x32 .f32 := takeRows (m ((c.tc : Thread nD τ).loc main_arg1)) (m ((c.tc : Thread nD τ).loc main_arg4))

set_option maxRecDepth 8192 in
/-- The reference's loss in these terms. -/
theorem v9_form (c : Dev nD) : Value.res_main_v9 m c
    = batchSum (soft zeros (subf (rowSum (mulf (takeU m c) (takeN m c))) (rowSum (mulf (takeU m c) (takeP m c))))) := rfl

set_option maxRecDepth 8192 in
/-- The reference's regulariser in these terms. -/
theorem v18_form (c : Dev nD) : Value.res_main_v18 m c
    = Host.divf (batchSum (addf (rowSum (mulf (takeU m c) (takeU m c))) (rowSum (addf (mulf (takeP m c) (takeP m c)) (mulf (takeN m c) (takeN m c))))))
        (constant S_ .f32 0x46800000#32) := rfl

/-! ## The takes -/

/-- A word below a million is not negative, as a signed number. -/
theorem word_facts (w : BitVec 32) (h : w.toNat < 1000000) :
    IntOp.cmpi .slt w 0#32 = 0#1 ∧ IntOp.cmpi .sge w 0#32 = 1#1 ∧ IntOp.cmpi .sle w 999999#32 = 1#1 ∧ min w.toInt.toNat 999999 = w.toNat := by
  have e : w.toInt = (w.toNat : ℤ) := by rw [BitVec.toInt_eq_toNat_cond]; split <;> omega
  refine ⟨?_, ?_, ?_, ?_⟩
  · simp only [IntOp.cmpi, BitVec.slt_eq_decide, e]
    rw [decide_eq_false (by simp)]; rfl
  · simp only [IntOp.cmpi, WordCmp.ofBool_eq_one_iff, BitVec.sle_eq_decide, decide_eq_true_eq, e]
    simp
  · simp only [IntOp.cmpi, WordCmp.ofBool_eq_one_iff, BitVec.sle_eq_decide, decide_eq_true_eq, e]
    rw [show (999999#32 : BitVec 32).toInt = 999999 from by decide]
    omega
  · rw [e]; omega

/-- A row number in range is the list's word. -/
theorem rowIx_apply (a : IVec S16384 32) (r : Fin 16384) (z : Fin 1) (h : (a (ValueIdx.ix1 r)).toNat < 1000000) : rowIx a (ValueIdx.ix2 r z) = a (ValueIdx.ix1 r) := by
  refine (broadcastInDim_apply _ _ _ _ (ValueIdx.ix1 r) fun b => by match b with | ⟨0, _⟩ => rfl).trans ?_
  show Idealize.ShloMosaic.Scalar.select (IntOp.cmpi .slt (a (ValueIdx.ix1 r)) 0#32) _ (a (ValueIdx.ix1 r)) = _
  rw [(word_facts _ h).1]; rfl

/-- In range, the check passes everywhere. -/
theorem inside_apply (a : IVec S16384 32) (h : ∀ j, (a j).toNat < 1000000) (i : S16384x1.Idx) : inside a i = 1#1 := by
  obtain ⟨r, z, rfl⟩ : ∃ (r : Fin 16384) (z : Fin 1), i = ValueIdx.ix2 r z := ⟨i 0, i 1, ValueIdx.eq_ix2 i⟩
  refine IntOp.andi_eq_one.2 ⟨?_, ?_⟩
  · show IntOp.cmpi .sge (rowIx a _) 0#32 = 1#1
    rw [rowIx_apply a _ _ (h _)]
    exact (word_facts _ (h _)).2.1
  · show IntOp.cmpi .sle (rowIx a _) 999999#32 = 1#1
    rw [rowIx_apply a _ _ (h _)]
    exact (word_facts _ (h _)).2.2.1

/-- The gather of rows, at an entry: the row number is read signed and clamped to the table. -/
theorem gather_entry {α : Type} (t : S1000000x32.Idx → α) (ix : IVec S16384x1 32) (r : Fin 16384) (k : Fin 32) :
    Host.gather gather_S1000000x32_S16384x1_S16384x32_1_0_n_n_0_1_132 t ix (ValueIdx.ix2 r k)
      = t (ValueIdx.ix2 ⟨min (ix (ValueIdx.ix2 r (0 : Fin 1))).toInt.toNat 999999, by omega⟩ k) := by
  unfold Host.gather
  refine congrArg t (funext fun a => Fin.ext ?_)
  have h01 : a = 0 ∨ a = 1 := by
    match a with
    | ⟨0, _⟩ => exact Or.inl rfl
    | ⟨1, _⟩ => exact Or.inr rfl
  set D := gather_S1000000x32_S16384x1_S16384x32_1_0_n_n_0_1_132 with hD
  show D.start (ValueIdx.ix2 r k) ix a + D.batchCoord (ValueIdx.ix2 r k) a + D.offCoord (ValueIdx.ix2 r k) a = _
  rw [D.batchCoord_eq_zero _ _ List.not_mem_nil]
  rcases h01 with rfl | rfl
  · rw [D.offCoord_eq_zero _ _ fun q => ((D.mem_sKept _).1 q).1 (List.mem_singleton.2 rfl)]
    unfold GatherDims.start
    rw [dif_pos (show (0 : Fin 2) ∈ D.startIndexMap from List.mem_singleton.2 rfl)]
    have e : D.siIdx (ValueIdx.ix2 r k) ⟨D.startIndexMap.idxOf (0 : Fin 2), List.idxOf_lt_length_iff.2 (List.mem_singleton.2 rfl)⟩ = ValueIdx.ix2 r (0 : Fin 1) := by
      funext b
      match b with
      | ⟨0, _⟩ => rfl
      | ⟨1, _⟩ => rfl
    rw [e]; rfl
  · unfold GatherDims.start GatherDims.offCoord
    rw [dif_neg (show (1 : Fin 2) ∉ D.startIndexMap from by rw [hD]; decide), dif_pos (show (1 : Fin 2) ∈ D.sKept from (D.mem_sKept _).2 (by rw [hD]; decide))]
    show 0 + 0 + _ = k.val
    rw [Nat.zero_add]; rfl

/-- In range, a take at an entry is the entry of the row the word names. -/
theorem takeRows_apply (t : FVec F S1000000x32 .f32) (a : IVec S16384 32) (h : ∀ j, (a j).toNat < 1000000) (r : Fin 16384) (k : Fin 32) :
    takeRows t a (ValueIdx.ix2 r k) = t (ValueIdx.ix2 (rowNo (a (ValueIdx.ix1 r))) k) := by
  unfold takeRows
  rw [ValueIdx.select_apply]
  have e : broadcastInDim S16384x32 ![0] bcast_S16384_S16384x32_0 (Host.reduce IntOp.andi (inside a) (constantI S_ 1 1#1) reducesTo_S16384x1_S16384_d1 h_S_) (ValueIdx.ix2 r k) = 1#1 :=
    Host.reduce_andi_one _ _ _ _ _ rfl (inside_apply a h)
  rw [e, gather_entry]
  show t _ = _
  refine congrArg t (congrArg (ValueIdx.ix2 · k) (Fin.ext ?_))
  show min (rowIx a (ValueIdx.ix2 r (0 : Fin 1))).toInt.toNat 999999 = (a (ValueIdx.ix1 r)).toNat % 1000000
  rw [rowIx_apply a r 0 (h _), (word_facts _ (h _)).2.2.2, Nat.mod_eq_of_lt (h _)]

/-! ## The sums -/

/-- A row's sum at the extended reals. -/
theorem rowSum_apply (x : FVec Ideal S16384x32 .f32) (r : Fin 16384) : rowSum x (ValueIdx.ix1 r) = ∑ k : Fin 32, x (ValueIdx.ix2 r k) := by
  refine (Ideal.hostReduceAdd_single reducesTo_S16384x32_S16384_d1 (by decide) x _ (ValueIdx.ix1 r)).trans ?_
  refine Eq.trans (congrArg (· + _) Ideal.ofBits_zero_f32) ?_
  rw [zero_add]
  refine Finset.sum_congr rfl fun (k : Fin 32) _ => congrArg x ?_
  funext a; match a with | ⟨0, _⟩ => rfl | ⟨1, _⟩ => rfl

/-- The sum over the batch at the extended reals. -/
theorem batchSum_apply (x : FVec Ideal S16384 .f32) (j : S_.Idx) : batchSum x j = ∑ r : Fin 16384, x (ValueIdx.ix1 r) := by
  refine (Ideal.hostReduceAdd_total reducesTo_S16384_S_d0 (fun b => b.elim0) x _ j).trans ?_
  refine Eq.trans (congrArg (· + _) Ideal.ofBits_zero_f32) ?_
  rw [zero_add, ← Equiv.sum_comp (ValueIdx.idxEquiv1 (n := 16384)).symm]
  rfl

/-- The reference's softplus at an entry: at the extended reals nothing differs from itself. -/
theorem soft_apply (z x : FVec Ideal S16384 .f32) (i : S16384.Idx) (hz : z i = (0 : EReal)) : soft z x i = softR (x i) := by
  have e : cmpf .une (subf x z) (subf x z) i = 0#1 := by
    show Ideal.cmp .une (subf x z i) (subf x z i) = 0#1
    simp [Ideal.cmp]
  unfold soft
  rw [ValueIdx.select_apply, e]
  show max (x i) (z i) + Ideal.log1p (Ideal.exp (-(max (x i - z i) (-(x i - z i))))) = _
  rw [hz]; rfl

/-- The zeros are zeros. -/
theorem zeros_apply (i : S16384.Idx) : zeros (F := Ideal) i = (0 : EReal) := Ideal.ofBits_zero_f32

/-- The loss from three arrays of rows. -/
theorem loss_of (U P N : FVec Ideal S16384x32 .f32) (u p n : Fin 16384 → Fin 32 → EReal) (hu : ∀ r k, U (ValueIdx.ix2 r k) = u r k)
    (hp : ∀ r k, P (ValueIdx.ix2 r k) = p r k) (hn : ∀ r k, N (ValueIdx.ix2 r k) = n r k) (j : S_.Idx) :
    batchSum (soft zeros (subf (rowSum (mulf U N)) (rowSum (mulf U P)))) j = lossOf u p n := by
  rw [batchSum_apply]
  refine Finset.sum_congr rfl fun r _ => ?_
  rw [soft_apply _ _ _ (zeros_apply _), ValueIdx.subf_apply, rowSum_apply, rowSum_apply]
  simp only [ValueIdx.mulf_apply, hu, hp, hn]

/-- The regulariser from three arrays of rows. -/
theorem reg_of (U P N : FVec Ideal S16384x32 .f32) (u p n : Fin 16384 → Fin 32 → EReal) (hu : ∀ r k, U (ValueIdx.ix2 r k) = u r k)
    (hp : ∀ r k, P (ValueIdx.ix2 r k) = p r k) (hn : ∀ r k, N (ValueIdx.ix2 r k) = n r k) (w : BitVec 32) (j : S_.Idx) :
    Host.divf (batchSum (addf (rowSum (mulf U U)) (rowSum (addf (mulf P P) (mulf N N))))) (constant S_ .f32 w) j
      = Ideal.div (∑ r, ((∑ k, u r k * u r k) + ∑ k, (p r k * p r k + n r k * n r k))) (Ideal.ofBits .f32 w) := by
  have e : batchSum (addf (rowSum (mulf U U)) (rowSum (addf (mulf P P) (mulf N N)))) j = ∑ r, ((∑ k, u r k * u r k) + ∑ k, (p r k * p r k + n r k * n r k)) := by
    rw [batchSum_apply]
    refine Finset.sum_congr rfl fun r _ => ?_
    rw [ValueIdx.addf_apply, rowSum_apply, rowSum_apply]
    simp only [ValueIdx.addf_apply, ValueIdx.mulf_apply, hu, hp, hn]
  rw [← e]; rfl

end Cert.Proof.K.Ref

end
-- ==== Proof.Algebraic.lean ====
/-
  The value claim: over the extended reals, on real tables and index words in range, the kernel and the reference
  end with the same two results.
-/
module

public import proofs.«01_k».proof.Proof.Frames
public import proofs.«01_k».proof.Proof.KernelValue
public import proofs.«01_k».proof.Proof.RefValue

@[expose] public section

noncomputable section

namespace Cert.Proof.K

open Idealize.ShloMosaic Idealize.ShloMosaic.TcCoe Idealize.SL.Sem

/-- The kernel's loss is the loss of the looked-up rows, when the tables hold real numbers. -/
theorem lossV_lossOf (m : (ℓ : Loc Cert.KernelIdeal.nD Cert.KernelIdeal.τ Cert.KernelIdeal.sig) → Buf (Elt Ideal) ℓ) (c : Dev Cert.KernelIdeal.nD)
    (h0 : ∀ i, ∃ r : ℝ, m (loc c Cert.KernelIdeal.main_arg0) i = (r : EReal)) (h1 : ∀ i, ∃ r : ℝ, m (loc c Cert.KernelIdeal.main_arg1) i = (r : EReal))
    (j : Cert.KernelIdeal.S_.Idx) : lossV m c j = lossOf (uRow m c) (pRow m c) (nRow m c) :=
  (lossV_eq m c j).trans (lossK_eq _ _ _ (fun _ _ => h0 _) (fun _ _ => h1 _) (fun _ _ => h1 _))

/-- The kernel's regulariser is the regulariser of the looked-up rows. -/
theorem regV_regOf (m : (ℓ : Loc Cert.KernelIdeal.nD Cert.KernelIdeal.τ Cert.KernelIdeal.sig) → Buf (Elt Ideal) ℓ) (c : Dev Cert.KernelIdeal.nD)
    (j : Cert.KernelIdeal.S_.Idx) : regV m c j = regOf (uRow m c) (pRow m c) (nRow m c) :=
  (regV_eq m c j).trans (regK_eq _ _ _)

section
variable (m' : (ℓ : Loc Cert.ReferenceIdeal.nD Cert.ReferenceIdeal.τ Cert.ReferenceIdeal.sig) → Buf (Elt Ideal) ℓ) (c : Dev Cert.ReferenceIdeal.nD)
  (t0 t1 : Cert.KernelIdeal.S1000000x32.Idx → EReal) (a2 a3 a4 : Cert.KernelIdeal.S16384.Idx → BitVec 32)
  (e0 : m' ((c.tc : Thread Cert.ReferenceIdeal.nD Cert.ReferenceIdeal.τ).loc Cert.ReferenceIdeal.main_arg0) = t0)
  (e1 : m' ((c.tc : Thread Cert.ReferenceIdeal.nD Cert.ReferenceIdeal.τ).loc Cert.ReferenceIdeal.main_arg1) = t1)
  (e2 : m' ((c.tc : Thread Cert.ReferenceIdeal.nD Cert.ReferenceIdeal.τ).loc Cert.ReferenceIdeal.main_arg2) = a2)
  (e3 : m' ((c.tc : Thread Cert.ReferenceIdeal.nD Cert.ReferenceIdeal.τ).loc Cert.ReferenceIdeal.main_arg3) = a3)
  (e4 : m' ((c.tc : Thread Cert.ReferenceIdeal.nD Cert.ReferenceIdeal.τ).loc Cert.ReferenceIdeal.main_arg4) = a4)
  (h : ∀ j, (a2 j).toNat < 1000000 ∧ (a3 j).toNat < 1000000 ∧ (a4 j).toNat < 1000000)

include e0 e2 h in
/-- The reference's users' rows. -/
theorem takeU_look (r : Fin 16384) (k : Fin 32) : Ref.takeU m' c (ValueIdx.ix2 r k) = look t0 a2 r k := by
  subst e0 e2; exact Ref.takeRows_apply _ _ (fun j => (h j).1) r k

include e1 e3 h in
/-- The reference's positive items' rows. -/
theorem takeP_look (r : Fin 16384) (k : Fin 32) : Ref.takeP m' c (ValueIdx.ix2 r k) = look t1 a3 r k := by
  subst e1 e3; exact Ref.takeRows_apply _ _ (fun j => (h j).2.1) r k

include e1 e4 h in
/-- The reference's negative items' rows. -/
theorem takeN_look (r : Fin 16384) (k : Fin 32) : Ref.takeN m' c (ValueIdx.ix2 r k) = look t1 a4 r k := by
  subst e1 e4; exact Ref.takeRows_apply _ _ (fun j => (h j).2.2) r k

include e0 e1 e2 e3 e4 h in
/-- The reference's loss is the loss of the looked-up rows. -/
theorem ref_loss (j : Cert.ReferenceIdeal.S_.Idx) : Cert.ReferenceIdeal.Value.res_main_v9 m' c j = lossOf (look t0 a2) (look t1 a3) (look t1 a4) := by
  rw [Ref.v9_form]
  exact Ref.loss_of _ _ _ _ _ _ (takeU_look m' c t0 a2 a3 a4 e0 e2 h) (takeP_look m' c t1 a2 a3 a4 e1 e3 h) (takeN_look m' c t1 a2 a3 a4 e1 e4 h) j

include e0 e1 e2 e3 e4 h in
/-- The reference's regulariser is the regulariser of the looked-up rows. -/
theorem ref_reg (j : Cert.ReferenceIdeal.S_.Idx) : Cert.ReferenceIdeal.Value.res_main_v18 m' c j = regOf (look t0 a2) (look t1 a3) (look t1 a4) := by
  rw [Ref.v18_form]
  exact Ref.reg_of _ _ _ _ _ _ (takeU_look m' c t0 a2 a3 a4 e0 e2 h) (takeP_look m' c t1 a2 a3 a4 e1 e3 h) (takeN_look m' c t1 a2 a3 a4 e1 e4 h) _ j

end

/-- The kernel and the reference end with the same two results. -/
theorem algebraic : Cert.algebraic_KernelIdeal_ReferenceIdeal_pre_in_range_finite := by
  intro m g m' g' hp hm
  have hr := fun c => in_range_finite_real _ _ _ _ _ (hp c)
  refine ⟨fun c => lossV m c, fun c => regV m c, ?_, ?_⟩
  · exact (θ_run _ _ _).mono (fun _ h c => h.1 c) (run_main (F := Ideal) m g fun d => (hr d).1)
  · refine (θ_run _ _ _).mono (fun _ h c => ?_) (Cert.ReferenceIdeal.Value.run m' g')
    obtain ⟨q0, q1, q2⟩ := h c
    obtain ⟨e0, e1, e2, e3, e4⟩ := hm c
    refine ⟨q0.trans (funext fun j => ?_), q1.trans (funext fun j => ?_), q2⟩
    · exact (ref_loss m' c _ _ _ _ _ e0 e1 e2 e3 e4 (hr c).1 j).trans (lossV_lossOf m c (hr c).2.1 (hr c).2.2 j).symm
    · exact (ref_reg m' c _ _ _ _ _ e0 e1 e2 e3 e4 (hr c).1 j).trans (regV_regOf m c j).symm

end Cert.Proof.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_in_range_finite.Gen.facts,
  K.frame_Kernel, K.frame_KernelIdeal, K.frame_KernelIdeal_finite, K.frame_ReferenceIdeal, K.frame_ReferenceIdeal_finite, trivial, K.algebraic⟩

end Cert.Proof

end
